-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_and_classes [hPre_finite_scores_and_classes : Cert.Pre_finite_scores_and_classes.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_scores_and_classes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_and_classes [hPre_finite_scores_and_classes : Cert.Pre_finite_scores_and_classes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_scores_and_classes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_scores_and_classes [hKernelIdeal : Cert.KernelIdeal.Facts] [hPre_finite_scores_and_classes : Cert.Pre_finite_scores_and_classes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_and_classes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_scores_and_classes [hReferenceIdeal : Cert.ReferenceIdeal.Facts] [hPre_finite_scores_and_classes : Cert.Pre_finite_scores_and_classes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_and_classes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_scores_and_classes [hKernelIdeal : Cert.KernelIdeal.Facts] [hReferenceIdeal : Cert.ReferenceIdeal.Facts] [hPre_finite_scores_and_classes : Cert.Pre_finite_scores_and_classes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_and_classes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_scores_and_classes : Cert.Pre_finite_scores_and_classes.Facts),
    quiescent_Kernel (hKernel := hKernel)
    ∧ quiescent_KernelIdeal (hKernelIdeal := hKernelIdeal)
    ∧ quiescent_KernelIdeal_pre_finite_scores_and_classes (hKernelIdeal := hKernelIdeal) (hPre_finite_scores_and_classes := hPre_finite_scores_and_classes)
    ∧ quiescent_ReferenceIdeal (hReferenceIdeal := hReferenceIdeal)
    ∧ quiescent_ReferenceIdeal_pre_finite_scores_and_classes (hReferenceIdeal := hReferenceIdeal) (hPre_finite_scores_and_classes := hPre_finite_scores_and_classes)
    ∧ preserves_Kernel_KernelIdeal
    ∧ algebraic_KernelIdeal_ReferenceIdeal_pre_finite_scores_and_classes (hKernelIdeal := hKernelIdeal) (hReferenceIdeal := hReferenceIdeal) (hPre_finite_scores_and_classes := hPre_finite_scores_and_classes)
-- ==== Pre_finite_scores_and_classes.lean ====
abbrev S4194304x7 : Shape := ⟨2, ![4194304, 7]⟩
abbrev S4194304 : Shape := ⟨1, ![4194304]⟩
abbrev S_ : Shape := ⟨0, ![]⟩

class Facts : Prop where
  bcast_S_S4194304x7 : S_.BroadcastsInDim S4194304x7 (![] : Fin 0 → Fin S4194304x7.rank)
  bcast_S_S4194304 : S_.BroadcastsInDim S4194304 (![] : Fin 0 → Fin S4194304.rank)

variable [Facts]

def fn {F : FTy → Type} [FloatOps F] (main_arg0 : FVec F S4194304x7 .f32) (main_arg1 : IVec S4194304 32) : IVec S4194304x7 1 × IVec S4194304 1 :=
  let main_v0 : FVec F S4194304x7 .f32 := Host.absf main_arg0
  let main_cst : FVec F S_ .f32 := constant S_ .f32 0x7F800000#32
  let main_v1 : FVec F S4194304x7 .f32 := broadcastInDim S4194304x7 ![] bcast_S_S4194304x7 main_cst
  let main_v2 : IVec S4194304x7 1 := cmpf .olt main_v0 main_v1
  let main_c : IVec S_ 32 := constantI S_ 32 0#32
  let main_v3 : IVec S4194304 32 := broadcastInDim S4194304 ![] bcast_S_S4194304 main_c
  let main_v4 : IVec S4194304 1 := cmpi .sge main_arg1 main_v3
  let main_c_0 : IVec S_ 32 := constantI S_ 32 7#32
  let main_v5 : IVec S4194304 32 := broadcastInDim S4194304 ![] bcast_S_S4194304 main_c_0
  let main_v6 : IVec S4194304 1 := cmpi .slt main_arg1 main_v5
  let main_v7 : IVec S4194304 1 := andi main_v4 main_v6
  (main_v2, main_v7)
-- ==== Kernel.lean ====
abbrev S4194304x7 : Shape := ⟨2, ![4194304, 7]⟩
abbrev S4194304 : Shape := ⟨1, ![4194304]⟩
abbrev S7x4194304 : Shape := ⟨2, ![7, 4194304]⟩
abbrev S32768x128 : Shape := ⟨2, ![32768, 128]⟩
abbrev S7x128 : Shape := ⟨2, ![7, 128]⟩
abbrev S1x128 : Shape := ⟨2, ![1, 128]⟩
abbrev S7x131072 : Shape := ⟨2, ![7, 131072]⟩
abbrev S1024x128 : Shape := ⟨2, ![1024, 128]⟩
abbrev S8x7 : Shape := ⟨2, ![8, 7]⟩
abbrev S8x128 : Shape := ⟨2, ![8, 128]⟩
abbrev S_ : Shape := ⟨0, ![]⟩

abbrev nBuf : Space → Nat
  | .hbm => 50
  | .vmem => 9
  | .smem => 0
  | _ => 0

abbrev bufTy : (tb : Table) → Fin (tcTables nBuf tb) → BufTy
  | .hbm, ⟨0, _⟩ => ⟨S4194304x7, .f32⟩
  | .hbm, ⟨1, _⟩ => ⟨S4194304, .i32⟩
  | .hbm, ⟨2, _⟩ => ⟨S7x4194304, .f32⟩
  | .hbm, ⟨3, _⟩ => ⟨S32768x128, .i32⟩
  | .hbm, ⟨4, _⟩ => ⟨S7x128, .f32⟩
  | .hbm, ⟨5, _⟩ => ⟨S7x128, .f32⟩
  | .hbm, ⟨6, _⟩ => ⟨S1x128, .f32⟩
  | .hbm, ⟨7, _⟩ => ⟨S7x128, .f32⟩
  | .hbm, ⟨8, _⟩ => ⟨S7x128, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S7x131072, .f32⟩
  | .local _ .vmem, ⟨1, _⟩ => ⟨S7x131072, .f32⟩
  | .local _ .vmem, ⟨2, _⟩ => ⟨S1024x128, .i32⟩
  | .local _ .vmem, ⟨3, _⟩ => ⟨S1024x128, .i32⟩
  | .local _ .vmem, ⟨4, _⟩ => ⟨S7x128, .f32⟩
  | .local _ .vmem, ⟨5, _⟩ => ⟨S7x128, .f32⟩
  | .local _ .vmem, ⟨6, _⟩ => ⟨S1x128, .f32⟩
  | .local _ .vmem, ⟨7, _⟩ => ⟨S7x128, .f32⟩
  | .local _ .vmem, ⟨8, _⟩ => ⟨S7x128, .f32⟩
  | _, _ => ⟨S4194304x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev main_v2_4 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_cst_4 : Ref sig .tc := ⟨.hbm, 19, rfl⟩
abbrev main_cst_5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_cst_7 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_8 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_9 : Ref sig .tc := ⟨.hbm, 35, rfl⟩
abbrev main_v19 : Ref sig .tc := ⟨.hbm, 36, rfl⟩
abbrev main_cst_10 : Ref sig .tc := ⟨.hbm, 37, rfl⟩
abbrev main_v20 : Ref sig .tc := ⟨.hbm, 38, rfl⟩
abbrev main_cst_11 : Ref sig .tc := ⟨.hbm, 39, rfl⟩
abbrev main_v21 : Ref sig .tc := ⟨.hbm, 40, rfl⟩
abbrev main_v22 : Ref sig .tc := ⟨.hbm, 41, rfl⟩
abbrev main_cst_12 : Ref sig .tc := ⟨.hbm, 42, rfl⟩
abbrev main_cst_13 : Ref sig .tc := ⟨.hbm, 43, rfl⟩
abbrev main_v23 : Ref sig .tc := ⟨.hbm, 44, rfl⟩
abbrev main_cst_14 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S7x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4194304x7 : Shape := ⟨2, ![4194304, 7]⟩
abbrev S4194304 : Shape := ⟨1, ![4194304]⟩
abbrev S_ : Shape := ⟨0, ![]⟩
abbrev S4194304x1 : Shape := ⟨2, ![4194304, 1]⟩
abbrev S1x7 : Shape := ⟨2, ![1, 7]⟩
abbrev S4194304x1x1 : Shape := ⟨3, ![4194304, 1, 1]⟩
abbrev S1 : Shape := ⟨1, ![1]⟩
abbrev S1x1x1 : Shape := ⟨3, ![1, 1, 1]⟩
abbrev S7 : Shape := ⟨1, ![7]⟩

abbrev nBuf : Space → Nat
  | .hbm => 123
  | .vmem => 0
  | .smem => 0
  | _ => 0

abbrev bufTy : (tb : Table) → Fin (tcTables nBuf tb) → BufTy
  | .hbm, ⟨0, _⟩ => ⟨S4194304x7, .f32⟩
  | .hbm, ⟨1, _⟩ => ⟨S4194304, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S4194304, .f32⟩
  | .hbm, ⟨13, _⟩ => ⟨S_, .f32⟩
  | .hbm, ⟨14, _⟩ => ⟨S4194304, .f32⟩
  | .hbm, ⟨15, _⟩ => ⟨S4194304, .f32⟩
  | .hbm, ⟨16, _⟩ => ⟨S4194304x1, .f32⟩
  | .hbm, ⟨17, _⟩ => ⟨S4194304x7, .f32⟩
  | .hbm, ⟨18, _⟩ => ⟨S4194304x7, .f32⟩
  | .hbm, ⟨19, _⟩ => ⟨S4194304x7, .f32⟩
  | .hbm, ⟨20, _⟩ => ⟨S_, .f32⟩
  | .hbm, ⟨21, _⟩ => ⟨S4194304, .f32⟩
  | .hbm, ⟨22, _⟩ => ⟨S4194304x1, .f32⟩
  | .hbm, ⟨23, _⟩ => ⟨S4194304x1, .f32⟩
  | .hbm, ⟨24, _⟩ => ⟨S4194304x7, .f32⟩
  | .hbm, ⟨25, _⟩ => ⟨S4194304x7, .f32⟩
  | .hbm, ⟨26, _⟩ => ⟨S4194304x1, .i32⟩
  | .hbm, ⟨27, _⟩ => ⟨S1x7, .i32⟩
  | .hbm, ⟨28, _⟩ => ⟨S4194304x7, .i32⟩
  | .hbm, ⟨29, _⟩ => ⟨S4194304x7, .i32⟩
  | .hbm, ⟨30, _⟩ => ⟨S4194304x7, .i1⟩
  | .hbm, ⟨31, _⟩ => ⟨S4194304x7, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S4194304x7, .f32⟩
  | .hbm, ⟨36, _⟩ => ⟨S4194304x7, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4194304x7, .f32⟩
  | .hbm, ⟨41, _⟩ => ⟨S4194304x7, .f32⟩
  | .hbm, ⟨42, _⟩ => ⟨S4194304x7, .f32⟩
  | .hbm, ⟨43, _⟩ => ⟨S_, .f32⟩
  | .hbm, ⟨44, _⟩ => ⟨S4194304, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S4194304x7, .f32⟩
  | .hbm, ⟨51, _⟩ => ⟨S4194304x1, .i32⟩
  | .hbm, ⟨52, _⟩ => ⟨S_, .i32⟩
  | .hbm, ⟨53, _⟩ => ⟨S4194304x1, .i32⟩
  | .hbm, ⟨54, _⟩ => ⟨S4194304x1, .i1⟩
  | .hbm, ⟨55, _⟩ => ⟨S_, .i32⟩
  | .hbm, ⟨56, _⟩ => ⟨S4194304x1, .i32⟩
  | .hbm, ⟨57, _⟩ => ⟨S4194304x1, .i32⟩
  | .hbm, ⟨58, _⟩ => ⟨S4194304x1, .i32⟩
  | .hbm, ⟨59, _⟩ => ⟨S4194304x1x1, .i32⟩
  | .hbm, ⟨60, _⟩ => ⟨S1, .i32⟩
  | .hbm, ⟨61, _⟩ => ⟨S_, .i32⟩
  | .hbm, ⟨62, _⟩ => ⟨S4194304x1x1, .i32⟩
  | .hbm, ⟨63, _⟩ => ⟨S4194304x1x1, .i1⟩
  | .hbm, ⟨64, _⟩ => ⟨S1x1x1, .i32⟩
  | .hbm, ⟨65, _⟩ => ⟨S4194304x1x1, .i32⟩
  | .hbm, ⟨66, _⟩ => ⟨S4194304x1x1, .i1⟩
  | .hbm, ⟨67, _⟩ => ⟨S4194304x1x1, .i1⟩
  | .hbm, ⟨68, _⟩ => ⟨S_, .i1⟩
  | .hbm, ⟨69, _⟩ => ⟨S4194304x1, .i1⟩
  | .hbm, ⟨70, _⟩ => ⟨S4194304x1, .f32⟩
  | .hbm, ⟨71, _⟩ => ⟨S_, .f32⟩
  | .hbm, ⟨72, _⟩ => ⟨S4194304x1, .f32⟩
  | .hbm, ⟨73, _⟩ => ⟨S4194304x1, .f32⟩
  | .hbm, ⟨74, _⟩ => ⟨S4194304, .f32⟩
  | .hbm, ⟨75, _⟩ => ⟨S_, .f32⟩
  | .hbm, ⟨76, _⟩ => ⟨S4194304, .f32⟩
  | .hbm, ⟨77, _⟩ => ⟨S4194304, .f32⟩
  | .hbm, ⟨78, _⟩ => ⟨S_, .f32⟩
  | .hbm, ⟨79, _⟩ => ⟨S4194304, .f32⟩
  | .hbm, ⟨80, _⟩ => ⟨S4194304, .f32⟩
  | .hbm, ⟨81, _⟩ => ⟨S_, .f32⟩
  | .hbm, ⟨82, _⟩ => ⟨S4194304, .f32⟩
  | .hbm, ⟨83, _⟩ => ⟨S4194304, .f32⟩
  | .hbm, ⟨84, _⟩ => ⟨S4194304, .f32⟩
  | .hbm, ⟨85, _⟩ => ⟨S4194304, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S7, .f32⟩
  | .hbm, ⟨91, _⟩ => ⟨S1x7, .f32⟩
  | .hbm, ⟨92, _⟩ => ⟨S4194304x1, .i32⟩
  | .hbm, ⟨93, _⟩ => ⟨S4194304x1, .f32⟩
  | .hbm, ⟨94, _⟩ => ⟨S4194304x7, .f32⟩
  | .hbm, ⟨95, _⟩ => ⟨S4194304x7, .f32⟩
  | .hbm, ⟨96, _⟩ => ⟨S4194304x7, .f32⟩
  | .hbm, ⟨97, _⟩ => ⟨S4194304x7, .f32⟩
  | .hbm, ⟨98, _⟩ => ⟨S4194304x7, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S4194304x7, .f32⟩
  | .hbm, ⟨106, _⟩ => ⟨S_, .f32⟩
  | .hbm, ⟨107, _⟩ => ⟨S_, .f32⟩
  | .hbm, ⟨108, _⟩ => ⟨S4194304x7, .f32⟩
  | .hbm, ⟨109, _⟩ => ⟨S4194304x7, .f32⟩
  | .hbm, ⟨110, _⟩ => ⟨S4194304x7, .f32⟩
  | .hbm, ⟨111, _⟩ => ⟨S_, .f32⟩
  | .hbm, ⟨112, _⟩ => ⟨S4194304, .f32⟩
  | .hbm, ⟨113, _⟩ => ⟨S_, .f32⟩
  | .hbm, ⟨114, _⟩ => ⟨S_, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | _, _ => ⟨S4194304x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_cst_2 : Ref sig .tc := ⟨.hbm, 6, rfl⟩
abbrev main_v1 : Ref sig .tc := ⟨.hbm, 7, rfl⟩
abbrev main_cst_3 : Ref sig .tc := ⟨.hbm, 8, rfl⟩
abbrev main_cst_4 : Ref sig .tc := ⟨.hbm, 9, rfl⟩
abbrev main_v2 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v3 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v4 : Ref sig .tc := ⟨.hbm, 31, rfl⟩
abbrev main_cst_5 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_cst_6 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_7 : Ref sig .tc := ⟨.hbm, 43, rfl⟩
abbrev main_v14 : Ref sig .tc := ⟨.hbm, 44, rfl⟩
abbrev main_cst_8 : Ref sig .tc := ⟨.hbm, 45, rfl⟩
abbrev main_v15 : Ref sig .tc := ⟨.hbm, 46, rfl⟩
abbrev main_cst_9 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v20 : Ref sig .tc := ⟨.hbm, 73, rfl⟩
abbrev main_v21 : Ref sig .tc := ⟨.hbm, 74, rfl⟩
abbrev main_cst_10 : Ref sig .tc := ⟨.hbm, 75, rfl⟩
abbrev main_v22 : Ref sig .tc := ⟨.hbm, 76, rfl⟩
abbrev main_v23 : Ref sig .tc := ⟨.hbm, 77, rfl⟩
abbrev main_cst_11 : Ref sig .tc := ⟨.hbm, 78, rfl⟩
abbrev main_v24 : Ref sig .tc := ⟨.hbm, 79, rfl⟩
abbrev main_v25 : Ref sig .tc := ⟨.hbm, 80, rfl⟩
abbrev main_cst_12 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_13 : Ref sig .tc := ⟨.hbm, 86, rfl⟩
abbrev main_v30 : Ref sig .tc := ⟨.hbm, 87, rfl⟩
abbrev main_cst_14 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_cst_15 : Ref sig .tc := ⟨.hbm, 99, rfl⟩
abbrev main_v41 : Ref sig .tc := ⟨.hbm, 100, rfl⟩
abbrev main_cst_16 : Ref sig .tc := ⟨.hbm, 101, rfl⟩
abbrev main_v42 : Ref sig .tc := ⟨.hbm, 102, rfl⟩
abbrev main_call3_call0_cst : Ref sig .tc := ⟨.hbm, 103, rfl⟩
abbrev main_call3_call0_v0 : Ref sig .tc := ⟨.hbm, 104, rfl⟩
abbrev main_v43 : Ref sig .tc := ⟨.hbm, 105, rfl⟩
abbrev main_call4_call0_cst : Ref sig .tc := ⟨.hbm, 106, rfl⟩
abbrev main_call4_call0_v0 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_cst_17 : Ref sig .tc := ⟨.hbm, 111, rfl⟩
abbrev main_v47 : Ref sig .tc := ⟨.hbm, 112, rfl⟩
abbrev main_cst_18 : Ref sig .tc := ⟨.hbm, 113, rfl⟩
abbrev main_v48 : Ref sig .tc := ⟨.hbm, 114, rfl⟩
abbrev main_cst_19 : Ref sig .tc := ⟨.hbm, 115, rfl⟩
abbrev main_v49 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩

abbrev nD : Nat := 1
abbrev τ : Topo := Topo.v7x

variable {F : FTy → Type} [FloatOps F]
-- ==== Proof.Chunks.lean ====
/-
  The kernel's body as a LOOP over its chunks, stated without any printed program: the printed body is its 1024
  chunks written one after another, and here one chunk is written once (`chunk`, `walk`). Body.lean of each program
  says that the printed body is this loop; Steps.lean runs the loop, by induction on the chunks still to come.
-/
module

public import Idealize.ShloMosaic.Lib.Pipeline
public import Idealize.ShloMosaic.Lib.Scf
public import Idealize.ShloMosaic.Lib.Sig
public import Idealize.ShloMosaic.Lib.StableHlo
public import Idealize.ShloMosaic.PureOps

@[expose] public section

noncomputable section

namespace Cert.Loss

open Idealize.ShloMosaic Idealize.SL.Sem

/-- A point's block of scores, classes down, and of targets; one chunk of each; the result of the all-ones product. -/
abbrev SX : Shape := ⟨2, ![7, 131072]⟩
abbrev ST : Shape := ⟨2, ![1024, 128]⟩
abbrev S7 : Shape := ⟨2, ![7, 128]⟩
abbrev S1 : Shape := ⟨2, ![1, 128]⟩
abbrev S8 : Shape := ⟨2, ![8, 128]⟩
abbrev SO : Shape := ⟨2, ![8, 7]⟩

theorem pos7 : 0 < S7.numel := by decide
theorem pos1 : 0 < S1.numel := by decide

/-- Chunk `k` of the block of scores, and row `k` of the targets, lie in their blocks. -/
theorem in_x (k : Nat) (h : k < 1024) : ∀ a, (![0, 128 * k] : Fin 2 → Nat) a + S7.size a ≤ SX.size a := by
  intro a; fin_cases a
  · show 0 + 7 ≤ 7; omega
  · show 128 * k + 128 ≤ 131072; omega
theorem in_t (k : Nat) (h : k < 1024) : ∀ a, (![k, 0] : Fin 2 → Nat) a + S1.size a ≤ ST.size a := by
  intro a; fin_cases a
  · show k + 1 ≤ 1024; omega
  · show 0 + 128 ≤ 128; omega
theorem in_7 : ∀ a, (![0, 0] : Fin 2 → Nat) a + S7.size a ≤ S7.size a := by decide
theorem in_1 : ∀ a, (![0, 0] : Fin 2 → Nat) a + S1.size a ≤ S1.size a := by decide

/-- The all-ones product's dimensions: an 8×7 by a 7×128. -/
noncomputable def dims : DotDims SO S7 S8 where
  lhsContracting := [1]
  rhsContracting := [0]
  lhsNonContracting := [0]
  rhsNonContracting := [1]
  lhsBatch := []
  rhsBatch := []
  wf := by decide

theorem iota7 : S7.Iotas .tc 32 [0] := by decide
theorem cast7 : S7.ShapeCasts S7 := by decide
theorem cast1 : S1.ShapeCasts S1 := by decide
theorem spread : S1.Broadcasts S7 := by decide
theorem narrower : FTy.bits .bf16 < FTy.bits .f32 := by decide
theorem top7 : S8.Slices ![0, 0] S7 := by decide
theorem top1 : S8.Slices ![0, 0] S1 := by decide

variable {F : FTy → Type} [FloatOps F]

/-- The five sums a point keeps: the target's score, every score, the logarithm of the normaliser, the squared
    complement of the target's probability, and the probability weighted by the distance from the target. -/
structure Acc (F : FTy → Type) where
  xt : FVec F S7 .f32
  sx : FVec F S7 .f32
  lz : FVec F S1 .f32
  fw : FVec F S7 .f32
  w : FVec F S7 .f32

/-- All five at zero. -/
noncomputable def Acc.zero : Acc F where
  xt := broadcast S7 (Scalar.ofBits .f32 0x00000000#32)
  sx := broadcast S7 (Scalar.ofBits .f32 0x00000000#32)
  lz := broadcast S1 (Scalar.ofBits .f32 0x00000000#32)
  fw := broadcast S7 (Scalar.ofBits .f32 0x00000000#32)
  w := broadcast S7 (Scalar.ofBits .f32 0x00000000#32)

/-- The class of each sublane; the logarithm of two, which turns `log` into `log2`; the targets, one per class row. -/
noncomputable def classes : FVec F S7 .f32 := sitofp .f32 (iota .tc S7 32 [0] iota7)
noncomputable def ln2 : FVec F S1 .f32 := log (broadcast S1 (Scalar.ofBits .f32 0x40000000#32))
noncomputable def target (t : Vec F S1 .i32) : FVec F S7 .f32 :=
  broadcastTo S7 (shapeCast S1 (sitofp .f32 (shapeCast S1 t cast1)) cast1) spread

/-- The normaliser, on eight sublanes, of scores `x`; the probabilities. -/
noncomputable def norm (x : FVec F S7 .f32) : FVec F S8 .f32 :=
  matmul dims none (broadcast SO (Scalar.ofBits .bf16 0x3F80#16)) (truncf .bf16 (exp x) narrower)
    (constant S8 .f32 0x00000000#32)
noncomputable def prob (x : FVec F S7 .f32) : FVec F S7 .f32 :=
  mulf (exp x) (divf (broadcast S7 (Scalar.ofBits .f32 0x3F800000#32)) (extractStridedSlice S7 ![0, 0] (norm x) top7))

/-- The sums after one more chunk, of scores `x` and targets `t`. -/
noncomputable def chunk (s : Acc F) (x : FVec F S7 .f32) (t : Vec F S1 .i32) : Acc F where
  xt := addf s.xt (select (cmpf .oeq classes (target t)) x (broadcast S7 (Scalar.ofBits .f32 0x00000000#32)))
  sx := addf s.sx x
  lz := addf s.lz (divf (log (extractStridedSlice S1 ![0, 0] (norm x) top1)) ln2)
  fw := addf s.fw (select (cmpf .oeq classes (target t))
    (mulf (subf (broadcast S7 (Scalar.ofBits .f32 0x3F800000#32)) (prob x))
      (subf (broadcast S7 (Scalar.ofBits .f32 0x3F800000#32)) (prob x)))
    (broadcast S7 (Scalar.ofBits .f32 0x00000000#32)))
  w := addf s.w (mulf (absf (subf classes (target t))) (prob x))

section Programs

variable {nD : Nat} {τ : Topo} {sig : RefSig} {Λ : Labels}

/-- The loop: `n` chunks from chunk `k` on, from the sums `s`. -/
noncomputable def walk (a1 : Memref sig .tc .vmem SX .f32) (a2 : Memref sig .tc .vmem ST .i32) (n : Nat) :
    (k : Nat) → k + n ≤ 1024 → Acc F → Prog (TpuEff nD τ sig (Elt F) Λ .tc) (Acc F) :=
  Nat.rec (motive := fun n => (k : Nat) → k + n ≤ 1024 → Acc F → Prog (TpuEff nD τ sig (Elt F) Λ .tc) (Acc F))
    (fun _ _ s => pure s)
    (fun n ih k h s => do
      let x : Vec F S7 .f32 ← Prog.lift (.load a1 (Rect.unit (s := SX) ![0, 128 * k] S7.size (in_x k (by omega))).toLoadRect (View.loadsAt_vmem pos7))
      let t : Vec F S1 .i32 ← Prog.lift (.load a2 (Rect.unit (s := ST) ![k, 0] S1.size (in_t k (by omega))).toLoadRect (View.loadsAt_vmem pos1))
      ih (k + 1) (by omega) (chunk s (shapeCast S7 x cast7) t))
    n

/-- A load of a whole output block, and a store of it. -/
noncomputable abbrev get7 (a : Memref sig .tc .vmem S7 .f32) : Prog (TpuEff nD τ sig (Elt F) Λ .tc) (Vec F S7 .f32) :=
  Prog.lift (.load a (Rect.unit (s := S7) ![0, 0] S7.size in_7).toLoadRect (View.loadsAt_vmem pos7))
noncomputable abbrev get1 (a : Memref sig .tc .vmem S1 .f32) : Prog (TpuEff nD τ sig (Elt F) Λ .tc) (Vec F S1 .f32) :=
  Prog.lift (.load a (Rect.unit (s := S1) ![0, 0] S1.size in_1).toLoadRect (View.loadsAt_vmem pos1))
noncomputable abbrev put7 (a : Memref sig .tc .vmem S7 .f32) (v : FVec F S7 .f32) : Prog (TpuEff nD τ sig (Elt F) Λ .tc) PUnit :=
  Prog.lift (.store a (Rect.unit (s := S7) ![0, 0] S7.size in_7) v Finset.univ (View.stores_vmem_bits_univ pos7 rfl) (.inl rfl))
noncomputable abbrev put1 (a : Memref sig .tc .vmem S1 .f32) (v : FVec F S1 .f32) : Prog (TpuEff nD τ sig (Elt F) Λ .tc) PUnit :=
  Prog.lift (.store a (Rect.unit (s := S1) ![0, 0] S1.size in_1) v Finset.univ (View.stores_vmem_bits_univ pos1 rfl) (.inl rfl))

/-- An output set to `v`: the printed code loads it first. -/
noncomputable def set7 (a : Memref sig .tc .vmem S7 .f32) (v : FVec F S7 .f32) : Prog (TpuEff nD τ sig (Elt F) Λ .tc) PUnit := do
  let _ ← get7 a
  put7 a v
noncomputable def set1 (a : Memref sig .tc .vmem S1 .f32) (v : FVec F S1 .f32) : Prog (TpuEff nD τ sig (Elt F) Λ .tc) PUnit := do
  let _ ← get1 a
  put1 a v

/-- An output raised by `d`. -/
noncomputable def raise7 (a : Memref sig .tc .vmem S7 .f32) (d : FVec F S7 .f32) : Prog (TpuEff nD τ sig (Elt F) Λ .tc) PUnit := do
  let o ← get7 a
  let _ ← get7 a
  put7 a (addf (shapeCast S7 o cast7) d)
noncomputable def raise1 (a : Memref sig .tc .vmem S1 .f32) (d : FVec F S1 .f32) : Prog (TpuEff nD τ sig (Elt F) Λ .tc) PUnit := do
  let o ← get1 a
  let _ ← get1 a
  put1 a (addf (shapeCast S1 o cast1) d)

/-- The outputs set to zero, at the first point only. -/
noncomputable def zeroAll (a3 a4 : Memref sig .tc .vmem S7 .f32) (a5 : Memref sig .tc .vmem S1 .f32) (a6 a7 : Memref sig .tc .vmem S7 .f32) :
    Prog (TpuEff nD τ sig (Elt F) Λ .tc) PUnit :=
  set7 a3 (Acc.zero (F := F)).xt >>= fun _ => set7 a4 (Acc.zero (F := F)).sx >>= fun _ => set1 a5 (Acc.zero (F := F)).lz >>= fun _ =>
    set7 a6 (Acc.zero (F := F)).fw >>= fun _ => set7 a7 (Acc.zero (F := F)).w

/-- The sums added into the outputs. -/
noncomputable def addAll (a3 a4 : Memref sig .tc .vmem S7 .f32) (a5 : Memref sig .tc .vmem S1 .f32) (a6 a7 : Memref sig .tc .vmem S7 .f32)
    (s : Acc F) : Prog (TpuEff nD τ sig (Elt F) Λ .tc) PUnit :=
  raise7 a3 s.xt >>= fun _ => raise7 a4 s.sx >>= fun _ => raise1 a5 s.lz >>= fun _ => raise7 a6 s.fw >>= fun _ => raise7 a7 s.w

/-- What every point does: the loop, then the additions. -/
noncomputable def rest (a1 : Memref sig .tc .vmem SX .f32) (a2 : Memref sig .tc .vmem ST .i32)
    (a3 a4 : Memref sig .tc .vmem S7 .f32) (a5 : Memref sig .tc .vmem S1 .f32) (a6 a7 : Memref sig .tc .vmem S7 .f32) :
    Prog (TpuEff nD τ sig (Elt F) Λ .tc) PUnit := do
  let s ← walk a1 a2 1024 0 (by omega) Acc.zero
  addAll a3 a4 a5 a6 a7 s

end Programs

end Cert.Loss

end
-- ==== Proof.Steps.lean ====
/-
  Runs of the loop of Chunks.lean: what a point leaves in the five outputs, by induction on the chunks still to come.
-/
module

public import proofs.«01_k».proof.Proof.Chunks
public import Idealize.ShloMosaic.Lib.Memref
public import Idealize.ShloMosaic.Lib.VecWindow
public import Idealize.ShloMosaic.Lib.Ring
public import Idealize.ShloMosaic.Lib.Tactic
public import Idealize.ShloMosaic.Lib.Pipeline.FrameBody
public import Idealize.ShloMosaic.Lib.Pipeline.ValueKit.Basic

@[expose] public section

noncomputable section

namespace Cert.Loss

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section Access

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

/-- A load of a rectangle of a memref owned at `X` goes on with `X` there. -/
theorem load_owns {cs : CoreSpace} {m : Memref sig c.2.kind cs s e} {r : Rect s} {hl : m.view.LoadsAt r.toLoadRect}
    {k : (r.shape.Idx → Val e) → Prog (TpuEff nD τ sig Val Λ c.2) α} (X : s.Idx → Val e) :
    (owns c m fullShare X : sProp (MT nD τ sig Ix Val Name U Lvl))
      ⊢ iprop((owns c m fullShare X -∗ wp frame (wpE defs 𝒱 c bd) E (k (View.ld X r)) Q)
        -∗ wp frame (wpE defs 𝒱 c bd) E (.op (.load m r.toLoadRect hl) k) Q) := by
  unfold owns
  iintro ⟨%f, %hf, H⟩ Hk
  subst hf
  iapply (wp_load 𝒱 c bd E (S := m.view.set) (q := fullShare) (f := f) (m.view.setOn_subset_set _)) $$ H
  iintro H
  iapply Hk
  iexists f
  isplitr
  · ipureintro; rfl
  iexact H

/-- A store of all of a memref leaves the payload, whatever was there. -/
theorem store_owns {cs : CoreSpace} {m : Memref sig c.2.kind cs s e} {off : Fin s.rank → ℕ} {inb : ∀ a, off a + s.size a ≤ s.size a}
    {w : s.Idx → Val e} {hx : (m.access (Rect.unit off s.size inb)).Stores Finset.univ}
    {hm : Finset.univ = Finset.univ ∨ ∀ a, (Rect.unit off s.size inb).stride a = 1}
    {k : PUnit → Prog (TpuEff nD τ sig Val Λ c.2) α} (X : s.Idx → Val e) :
    (owns c m fullShare X : sProp (MT nD τ sig Ix Val Name U Lvl))
      ⊢ iprop((owns c m fullShare w -∗ wp frame (wpE defs 𝒱 c bd) E (k ⟨⟩) Q)
        -∗ wp frame (wpE defs 𝒱 c bd) E (.op (.store m (Rect.unit off s.size inb) w Finset.univ hx hm) k) Q) := by
  unfold owns
  iintro ⟨%f, %hf, H⟩ Hk
  iapply (wp_store_writes₀ 𝒱 c bd E (S := m.view.set) (f := f) (w := w) (by rw [View.set_slice]; exact m.view.setOn_subset_set _)) $$ H
  iintro H
  iapply Hk
  iexists _
  isplitr
  · ipureintro; exact View.read_writes_full m.view f inb w []
  iexact H

end Access

variable {F : FTy → Type} [FloatOps F]

/-- A load of a whole output reads it. -/
theorem ld7 (X : Vec F S7 .f32) : View.ld (Val := Elt F) (e' := .f32) X (Rect.unit (s := S7) ![0, 0] S7.size in_7) = X :=
  View.ld_unit_lit (S := S7) in_7 X (by decide)
theorem ld1 (X : Vec F S1 .f32) : View.ld (Val := Elt F) (e' := .f32) X (Rect.unit (s := S1) ![0, 0] S1.size in_1) = X :=
  View.ld_unit_lit (S := S1) in_1 X (by decide)

/-- Chunk `k` of a block of scores, row `k` of a block of targets. -/
def cut (X : Vec F SX .f32) (k : Nat) (h : k < 1024) : Vec F S7 .f32 :=
  View.ld (Val := Elt F) (e' := .f32) X (Rect.unit (s := SX) ![0, 128 * k] S7.size (in_x k h))
def row (T : Vec F ST .i32) (k : Nat) (h : k < 1024) : Vec F S1 .i32 :=
  View.ld (Val := Elt F) (e' := .i32) T (Rect.unit (s := ST) ![k, 0] S1.size (in_t k h))

/-- The sums after `n` chunks from chunk `k` on. -/
def fold (X : Vec F SX .f32) (T : Vec F ST .i32) : (n k : Nat) → k + n ≤ 1024 → Acc F → Acc F
  | 0, _, _, s => s
  | n + 1, k, h, s => fold X T n (k + 1) (by omega)
      (chunk s (shapeCast S7 (cut X k (by omega)) cast7) (row T k (by omega)))

/-- A point's sums. -/
def sums (X : Vec F SX .f32) (T : Vec F ST .i32) : Acc F := fold X T 1024 0 (by omega) Acc.zero

/-- Sums added into outputs. -/
def Acc.plus (o s : Acc F) : Acc F where
  xt := addf (shapeCast S7 o.xt cast7) s.xt
  sx := addf (shapeCast S7 o.sx cast7) s.sx
  lz := addf (shapeCast S1 o.lz cast1) s.lz
  fw := addf (shapeCast S7 o.fw cast7) s.fw
  w := addf (shapeCast S7 o.w cast7) s.w

section Runs

variable {nD : Nat} {τ : Topo} {sig : RefSig} {Ix : Type} [DecidableEq Ix]
variable {Name : Type} [DecidableEq Name] {U : Type} [URA U] {Lvl : Type} {Λ : Labels}
variable [Preorder Lvl] {defs : Defs nD τ sig (Elt F) Λ} (𝒱 : Variants) (c : Dev nD) (E : Set Name)

local notation "𝕄" => MT nD τ sig Ix (Elt F) Name U Lvl

/-- A finished program is at its result. -/
theorem done_run {α : Type} {Q : α → sProp 𝕄} (a : α) :
    Q a ⊢ wp frame (wpE defs 𝒱 (c : Thread nD τ) none) E (Prog.ret a) Q := by
  rw [wp_ret]
  iintro H
  imodintro
  iexact H

/-- The loop keeps the two inputs and ends at `fold`. -/
theorem walk_run (a1 : Memref sig .tc .vmem SX .f32) (a2 : Memref sig .tc .vmem ST .i32) (X : Vec F SX .f32) (T : Vec F ST .i32)
    {Q : Acc F → sProp 𝕄} (n : Nat) : ∀ (k : Nat) (h : k + n ≤ 1024) (s : Acc F),
    iprop(owns (c : Thread nD τ) a1 fullShare X ∗ owns (c : Thread nD τ) a2 fullShare T
        ∗ (iprop(owns (c : Thread nD τ) a1 fullShare X ∗ owns (c : Thread nD τ) a2 fullShare T) -∗ Q (fold X T n k h s)))
      ⊢ wp frame (wpE defs 𝒱 c none) E (walk a1 a2 n k h s) Q := by
  induction n with
  | zero =>
    intro k h s
    rw [fold]
    iintro ⟨H1, H2, Hk⟩
    iapply (done_run 𝒱 c E s)
    iapply Hk
    isplitl [H1]; · iexact H1
    iexact H2
  | succ n ih =>
    intro k h s
    rw [fold]
    iintro ⟨H1, H2, Hk⟩
    iapply (load_owns 𝒱 (c : Thread nD τ) none E X) $$ H1
    iintro H1
    iapply (load_owns 𝒱 (c : Thread nD τ) none E T) $$ H2
    iintro H2
    iapply (ih (k + 1) (by omega) _)
    isplitl [H1]; · iexact H1
    isplitl [H2]; · iexact H2
    iexact Hk

/-- The five outputs owned at `o`. -/
def outs (a3 a4 : Memref sig .tc .vmem S7 .f32) (a5 : Memref sig .tc .vmem S1 .f32) (a6 a7 : Memref sig .tc .vmem S7 .f32)
    (o : Acc F) : sProp 𝕄 :=
  iprop(owns (c : Thread nD τ) a3 fullShare o.xt ∗ owns (c : Thread nD τ) a4 fullShare o.sx
    ∗ owns (c : Thread nD τ) a5 fullShare o.lz ∗ owns (c : Thread nD τ) a6 fullShare o.fw ∗ owns (c : Thread nD τ) a7 fullShare o.w)

variable (a1 : Memref sig .tc .vmem SX .f32) (a2 : Memref sig .tc .vmem ST .i32)
  (a3 a4 : Memref sig .tc .vmem S7 .f32) (a5 : Memref sig .tc .vmem S1 .f32) (a6 a7 : Memref sig .tc .vmem S7 .f32)

/-- An output set, whatever it held. -/
theorem set7_run (a : Memref sig .tc .vmem S7 .f32) (v X : FVec F S7 .f32) {Q : PUnit → sProp 𝕄} :
    iprop(owns (c : Thread nD τ) a fullShare X ∗ (owns (c : Thread nD τ) a fullShare v -∗ Q ⟨⟩))
      ⊢ wp frame (wpE defs 𝒱 (c : Thread nD τ) none) E (set7 a v) Q := by
  iintro ⟨H, Hk⟩
  iapply (load_owns 𝒱 (c : Thread nD τ) none E X) $$ H
  iintro H
  iapply (store_owns 𝒱 (c : Thread nD τ) none E X) $$ H
  iintro H
  iapply (done_run 𝒱 c E PUnit.unit)
  iapply Hk
  iexact H
theorem set1_run (a : Memref sig .tc .vmem S1 .f32) (v X : FVec F S1 .f32) {Q : PUnit → sProp 𝕄} :
    iprop(owns (c : Thread nD τ) a fullShare X ∗ (owns (c : Thread nD τ) a fullShare v -∗ Q ⟨⟩))
      ⊢ wp frame (wpE defs 𝒱 (c : Thread nD τ) none) E (set1 a v) Q := by
  iintro ⟨H, Hk⟩
  iapply (load_owns 𝒱 (c : Thread nD τ) none E X) $$ H
  iintro H
  iapply (store_owns 𝒱 (c : Thread nD τ) none E X) $$ H
  iintro H
  iapply (done_run 𝒱 c E PUnit.unit)
  iapply Hk
  iexact H

/-- An output raised. -/
theorem raise7_run (a : Memref sig .tc .vmem S7 .f32) (d X : FVec F S7 .f32) {Q : PUnit → sProp 𝕄} :
    iprop(owns (c : Thread nD τ) a fullShare X ∗ (owns (c : Thread nD τ) a fullShare (addf (shapeCast S7 X cast7) d) -∗ Q ⟨⟩))
      ⊢ wp frame (wpE defs 𝒱 (c : Thread nD τ) none) E (raise7 a d) Q := by
  iintro ⟨H, Hk⟩
  iapply (load_owns 𝒱 (c : Thread nD τ) none E X) $$ H
  iintro H
  iapply (load_owns 𝒱 (c : Thread nD τ) none E X) $$ H
  iintro H
  rw [ld7]
  iapply (store_owns 𝒱 (c : Thread nD τ) none E X) $$ H
  iintro H
  iapply (done_run 𝒱 c E PUnit.unit)
  iapply Hk
  iexact H
theorem raise1_run (a : Memref sig .tc .vmem S1 .f32) (d X : FVec F S1 .f32) {Q : PUnit → sProp 𝕄} :
    iprop(owns (c : Thread nD τ) a fullShare X ∗ (owns (c : Thread nD τ) a fullShare (addf (shapeCast S1 X cast1) d) -∗ Q ⟨⟩))
      ⊢ wp frame (wpE defs 𝒱 (c : Thread nD τ) none) E (raise1 a d) Q := by
  iintro ⟨H, Hk⟩
  iapply (load_owns 𝒱 (c : Thread nD τ) none E X) $$ H
  iintro H
  iapply (load_owns 𝒱 (c : Thread nD τ) none E X) $$ H
  iintro H
  rw [ld1]
  iapply (store_owns 𝒱 (c : Thread nD τ) none E X) $$ H
  iintro H
  iapply (done_run 𝒱 c E PUnit.unit)
  iapply Hk
  iexact H

/-- The five outputs set to zero, whatever they held. -/
theorem zero_run (o : Acc F) {Q : PUnit → sProp 𝕄} :
    iprop(outs c a3 a4 a5 a6 a7 o ∗ (outs c a3 a4 a5 a6 a7 Acc.zero -∗ Q ⟨⟩))
      ⊢ wp frame (wpE defs 𝒱 (c : Thread nD τ) none) E (zeroAll a3 a4 a5 a6 a7) Q := by
  unfold outs zeroAll
  iintro ⟨⟨H3, H4, H5, H6, H7⟩, Hk⟩
  rw [wp_bind]; iapply (set7_run 𝒱 c E a3 _ o.xt); isplitl [H3]; · iexact H3
  iintro H3
  rw [wp_bind]; iapply (set7_run 𝒱 c E a4 _ o.sx); isplitl [H4]; · iexact H4
  iintro H4
  rw [wp_bind]; iapply (set1_run 𝒱 c E a5 _ o.lz); isplitl [H5]; · iexact H5
  iintro H5
  rw [wp_bind]; iapply (set7_run 𝒱 c E a6 _ o.fw); isplitl [H6]; · iexact H6
  iintro H6
  iapply (set7_run 𝒱 c E a7 _ o.w); isplitl [H7]; · iexact H7
  iintro H7
  iapply Hk
  isplitl [H3]; · iexact H3
  isplitl [H4]; · iexact H4
  isplitl [H5]; · iexact H5
  isplitl [H6]; · iexact H6
  iexact H7

/-- The five outputs raised by a point's sums. -/
theorem add_run (o s : Acc F) {Q : PUnit → sProp 𝕄} :
    iprop(outs c a3 a4 a5 a6 a7 o ∗ (outs c a3 a4 a5 a6 a7 (o.plus s) -∗ Q ⟨⟩))
      ⊢ wp frame (wpE defs 𝒱 (c : Thread nD τ) none) E (addAll a3 a4 a5 a6 a7 s) Q := by
  unfold outs addAll
  iintro ⟨⟨H3, H4, H5, H6, H7⟩, Hk⟩
  rw [wp_bind]; iapply (raise7_run 𝒱 c E a3 _ o.xt); isplitl [H3]; · iexact H3
  iintro H3
  rw [wp_bind]; iapply (raise7_run 𝒱 c E a4 _ o.sx); isplitl [H4]; · iexact H4
  iintro H4
  rw [wp_bind]; iapply (raise1_run 𝒱 c E a5 _ o.lz); isplitl [H5]; · iexact H5
  iintro H5
  rw [wp_bind]; iapply (raise7_run 𝒱 c E a6 _ o.fw); isplitl [H6]; · iexact H6
  iintro H6
  iapply (raise7_run 𝒱 c E a7 _ o.w); isplitl [H7]; · iexact H7
  iintro H7
  iapply Hk
  isplitl [H3]; · iexact H3
  isplitl [H4]; · iexact H4
  isplitl [H5]; · iexact H5
  isplitl [H6]; · iexact H6
  iexact H7

/-- A later point: the outputs go from `o` to `o` and the point's sums. -/
theorem rest_run (X : Vec F SX .f32) (T : Vec F ST .i32) (o : Acc F) {Q : PUnit → sProp 𝕄} :
    iprop(owns (c : Thread nD τ) a1 fullShare X ∗ owns (c : Thread nD τ) a2 fullShare T ∗ outs c a3 a4 a5 a6 a7 o
        ∗ (iprop(owns (c : Thread nD τ) a1 fullShare X ∗ owns (c : Thread nD τ) a2 fullShare T ∗ outs c a3 a4 a5 a6 a7 (o.plus (sums X T))) -∗ Q ⟨⟩))
      ⊢ wp frame (wpE defs 𝒱 (c : Thread nD τ) none) E (rest a1 a2 a3 a4 a5 a6 a7) Q := by
  unfold rest
  rw [wp_bind]
  iintro ⟨H1, H2, Ho, Hk⟩
  iapply (walk_run 𝒱 c E a1 a2 X T 1024 0 _ Acc.zero)
  isplitl [H1]; · iexact H1
  isplitl [H2]; · iexact H2
  iintro ⟨H1, H2⟩
  iapply (add_run 𝒱 c E a3 a4 a5 a6 a7 o)
  isplitl [Ho]; · iexact Ho
  iintro Ho
  iapply Hk
  isplitl [H1]; · iexact H1
  isplitl [H2]; · iexact H2
  iexact Ho

/-- The first point: the outputs, whatever they held, go to the point's sums added to zero. -/
theorem first_run (X : Vec F SX .f32) (T : Vec F ST .i32) (o : Acc F) {Q : PUnit → sProp 𝕄} :
    iprop(owns (c : Thread nD τ) a1 fullShare X ∗ owns (c : Thread nD τ) a2 fullShare T ∗ outs c a3 a4 a5 a6 a7 o
        ∗ (iprop(owns (c : Thread nD τ) a1 fullShare X ∗ owns (c : Thread nD τ) a2 fullShare T ∗ outs c a3 a4 a5 a6 a7 (Acc.zero.plus (sums X T))) -∗ Q ⟨⟩))
      ⊢ wp frame (wpE defs 𝒱 (c : Thread nD τ) none) E (zeroAll a3 a4 a5 a6 a7 >>= fun _ => rest a1 a2 a3 a4 a5 a6 a7) Q := by
  rw [wp_bind]
  iintro ⟨H1, H2, Ho, Hk⟩
  iapply (zero_run 𝒱 c E a3 a4 a5 a6 a7 o)
  isplitl [Ho]; · iexact Ho
  iintro Ho
  iapply (rest_run 𝒱 c E a1 a2 a3 a4 a5 a6 a7 X T Acc.zero)
  isplitl [H1]; · iexact H1
  isplitl [H2]; · iexact H2
  isplitl [Ho]; · iexact Ho
  iexact Hk

end Runs

end Cert.Loss

end
-- ==== Proof.KernelIdealBody.lean ====
/-
  The printed body of `KernelIdeal` is the loop of Chunks.lean: at the first point after setting the outputs to zero
  (`body_first`), at a later one without (`body_later`). The printed body is cut into windows of 60 lines, which call one
  another; only the windows before the first chunk are opened here, to decide the printed branch, and the rest is the
  definitions' own unfolding, which the kernel checks.
-/
module

public import proofs.«01_k».proof.KernelIdeal
public import proofs.«01_k».proof.Proof.Chunks
public import Idealize.ShloMosaic.Lib.Tactic

@[expose] public section

noncomputable section

namespace Cert.KernelIdeal.Hand

open Idealize.ShloMosaic Idealize.SL.Sem Cert.Loss

variable {F : FTy → Type} [FloatOps F] [Facts]

/-- The printed condition of the first point. -/
abbrev isFirst (i : grid0.Coords) : Prop :=
  Scalar.cmpi .ne (Scalar.extui (Scalar.cmpi .eq (BitVec.ofNat 32 (i 0).val) 0#32)) (0#32 : BitVec 32) = 1#1

theorem body_first (i : grid0.Coords) (h : isFirst i) (arg1 : Memref sig .tc .vmem SX .f32) (harg1 : arg1.IsWhole) (arg2 : Memref sig .tc .vmem ST .i32) (harg2 : arg2.IsWhole) (arg3 : Memref sig .tc .vmem S7 .f32) (harg3 : arg3.IsWhole) (arg4 : Memref sig .tc .vmem S7 .f32) (harg4 : arg4.IsWhole) (arg5 : Memref sig .tc .vmem S1 .f32) (harg5 : arg5.IsWhole) (arg6 : Memref sig .tc .vmem S7 .f32) (harg6 : arg6.IsWhole) (arg7 : Memref sig .tc .vmem S7 .f32) (harg7 : arg7.IsWhole) :
    cc0__loss_kernel (F := F) i arg1 harg1 arg2 harg2 arg3 harg3 arg4 harg4 arg5 harg5 arg6 harg6 arg7 harg7
      = (zeroAll arg3 arg4 arg5 arg6 arg7 >>= fun _ => rest arg1 arg2 arg3 arg4 arg5 arg6 arg7) := by
  unfold cc0__loss_kernel k0_part730 k0_part718 k0_part1
  rw [dif_pos h]
  sl_kernel_rfl

theorem body_later (i : grid0.Coords) (h : ¬isFirst i) (arg1 : Memref sig .tc .vmem SX .f32) (harg1 : arg1.IsWhole) (arg2 : Memref sig .tc .vmem ST .i32) (harg2 : arg2.IsWhole) (arg3 : Memref sig .tc .vmem S7 .f32) (harg3 : arg3.IsWhole) (arg4 : Memref sig .tc .vmem S7 .f32) (harg4 : arg4.IsWhole) (arg5 : Memref sig .tc .vmem S1 .f32) (harg5 : arg5.IsWhole) (arg6 : Memref sig .tc .vmem S7 .f32) (harg6 : arg6.IsWhole) (arg7 : Memref sig .tc .vmem S7 .f32) (harg7 : arg7.IsWhole) :
    cc0__loss_kernel (F := F) i arg1 harg1 arg2 harg2 arg3 harg3 arg4 harg4 arg5 harg5 arg6 harg6 arg7 harg7
      = rest arg1 arg2 arg3 arg4 arg5 arg6 arg7 := by
  unfold cc0__loss_kernel k0_part730 k0_part718 k0_part1
  rw [dif_neg h]
  sl_kernel_rfl

end Cert.KernelIdeal.Hand

end
-- ==== Proof.KernelIdealRun.lean ====
/-
  The run of `KernelIdeal`: what each point leaves in the five outputs (`held`), the pipeline's proof data from it,
  the body's triple from the runs of Steps.lean, and the launch.
-/
module

public import proofs.«01_k».proof.Proof.Gen.KernelIdeal.Frame
public import proofs.«01_k».proof.Proof.KernelIdealBody
public import proofs.«01_k».proof.Proof.Steps
public import Idealize.ShloMosaic.Lib.Claim

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Loss Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The block of scores, and of targets, that point `t` works on. -/
def scores (c : Dev nD) (t : Fin cfg0.N) : Vec F SX .f32 := iblk m c 0 t
def targets (c : Dev nD) (t : Fin cfg0.N) : Vec F ST .i32 := iblk m c 1 t

/-- The five outputs after point `n`. -/
def held (c : Dev nD) : (n : Nat) → n < cfg0.N → Acc F
  | 0, h => Acc.zero.plus (sums (scores m c ⟨0, h⟩) (targets m c ⟨0, h⟩))
  | n + 1, h => (held c n (Nat.lt_of_succ_lt h)).plus (sums (scores m c ⟨n + 1, h⟩) (targets m c ⟨n + 1, h⟩))

theorem held_first (c : Dev nD) (t : Fin cfg0.N) (h : t.val = 0) :
    held m c t.val t.isLt = Acc.zero.plus (sums (scores m c t) (targets m c t)) := by
  obtain ⟨n, hn⟩ := t
  cases n with
  | zero => rfl
  | succ n => exact absurd h (Nat.succ_ne_zero n)
theorem held_later (c : Dev nD) (t : Fin cfg0.N) (h : t.val ≠ 0) :
    held m c t.val t.isLt = (held m c (t.val - 1) (Nat.lt_of_le_of_lt (Nat.sub_le _ _) t.isLt)).plus (sums (scores m c t) (targets m c t)) := by
  obtain ⟨n, hn⟩ := t
  cases n with
  | zero => exact absurd rfl h
  | succ n => rfl

/-- The proof data: the inputs' buffers stay at their blocks, the outputs' go to `held`. -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => (held m c t.val t.isLt).xt
    | 3 => (held m c t.val t.isLt).sx
    | 4 => (held m c t.val t.isLt).lz
    | 5 => (held m c t.val t.isLt).fw
    | 6 => (held m c t.val t.isLt).w
    | ⟨_ + 7, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = (held m c t.val t.isLt).xt := by dsimp only [dats]
theorem after_3 (c : Dev nD) (t : Fin cfg0.N) : (dats m 0 c).after 3 t = (held m c t.val t.isLt).sx := by dsimp only [dats]
theorem after_4 (c : Dev nD) (t : Fin cfg0.N) : (dats m 0 c).after 4 t = (held m c t.val t.isLt).lz := by dsimp only [dats]
theorem after_5 (c : Dev nD) (t : Fin cfg0.N) : (dats m 0 c).after 5 t = (held m c t.val t.isLt).fw := by dsimp only [dats]
theorem after_6 (c : Dev nD) (t : Fin cfg0.N) : (dats m 0 c).after 6 t = (held m c t.val t.isLt).w := by dsimp only [dats]

theorem before_0 (c : Dev nD) (t : Fin cfg0.N) (d) : (dats m 0 c).before 0 t d = scores m c t :=
  before0_0_of m (dats m 0 c) (A_eq m c 0) (after_0 m c) t d
theorem before_1 (c : Dev nD) (t : Fin cfg0.N) (d) : (dats m 0 c).before 1 t d = targets m c t :=
  before0_1_of m (dats m 0 c) (A_eq m c 1) (after_1 m c) t d

/-- No output is written back before the last point. -/
theorem not_flushed {w : Fin cfg0.W} (hw : ∀ t : Fin cfg0.N, (cfg0.win w).flush t = true ↔ t.val % 32 = 31) (t : Fin cfg0.N) (h : t.val ≠ 0) :
    (cfg0.win w).flush ⟨t.val - 1, Nat.lt_of_le_of_lt (Nat.sub_le _ _) t.isLt⟩ = false := by
  have ht : t.val < 32 := lt_of_lt_of_eq t.isLt N_0
  rw [← Bool.not_eq_true, hw]
  show ¬(t.val - 1) % 32 = 31
  omega

/-- So a later point finds an output as the point before left it. -/
theorem before_out (c : Dev nD) (w : Fin cfg0.W) (ho : (cfg0.win w).isOut = true)
    (hw : ∀ t : Fin cfg0.N, (cfg0.win w).flush t = true ↔ t.val % 32 = 31) (hlive : ∀ i, cfg0.idle w i = false)
    (hclip : ∀ (i : cfg0.grid.Coords) a, (cfg0.win w).clip i a = none) (t : Fin cfg0.N) (h : t.val ≠ 0) (d) :
    (dats m 0 c).before w t d = (dats m 0 c).after w ⟨t.val - 1, Nat.lt_of_le_of_lt (Nat.sub_le _ _) t.isLt⟩ :=
  (dats m 0 c).before_out_kept w ho t h (not_flushed hw t h) hlive hclip d

theorem before_2 (c : Dev nD) (t : Fin cfg0.N) (h : t.val ≠ 0) (d) :
    (dats m 0 c).before 2 t d = (held m c (t.val - 1) (Nat.lt_of_le_of_lt (Nat.sub_le _ _) t.isLt)).xt :=
  (before_out m c 2 rfl flush0_2 (fun _ => rfl) (fun _ _ => rfl) t h d).trans (after_2 m c _)
theorem before_3 (c : Dev nD) (t : Fin cfg0.N) (h : t.val ≠ 0) (d) :
    (dats m 0 c).before 3 t d = (held m c (t.val - 1) (Nat.lt_of_le_of_lt (Nat.sub_le _ _) t.isLt)).sx :=
  (before_out m c 3 rfl flush0_3 (fun _ => rfl) (fun _ _ => rfl) t h d).trans (after_3 m c _)
theorem before_4 (c : Dev nD) (t : Fin cfg0.N) (h : t.val ≠ 0) (d) :
    (dats m 0 c).before 4 t d = (held m c (t.val - 1) (Nat.lt_of_le_of_lt (Nat.sub_le _ _) t.isLt)).lz :=
  (before_out m c 4 rfl flush0_4 (fun _ => rfl) (fun _ _ => rfl) t h d).trans (after_4 m c _)
theorem before_5 (c : Dev nD) (t : Fin cfg0.N) (h : t.val ≠ 0) (d) :
    (dats m 0 c).before 5 t d = (held m c (t.val - 1) (Nat.lt_of_le_of_lt (Nat.sub_le _ _) t.isLt)).fw :=
  (before_out m c 5 rfl flush0_5 (fun _ => rfl) (fun _ _ => rfl) t h d).trans (after_5 m c _)
theorem before_6 (c : Dev nD) (t : Fin cfg0.N) (h : t.val ≠ 0) (d) :
    (dats m 0 c).before 6 t d = (held m c (t.val - 1) (Nat.lt_of_le_of_lt (Nat.sub_le _ _) t.isLt)).w :=
  (before_out m c 6 rfl flush0_6 (fun _ => rfl) (fun _ _ => rfl) t h d).trans (after_6 m c _)

/-- The body's condition holds at the first point only. -/
theorem isFirst_iff (t : Fin cfg0.N) : isFirst (grid0.coords t) ↔ t.val = 0 := by
  have ht : t.val < 32 := lt_of_lt_of_eq t.isLt N_0
  have e0 : (grid0.coords t 0).val = t.val / 1 % 32 := Pipeline.Grid.coords_val t 0 (by decide) rfl
  have e1 : (grid0.coords t 0).val = t.val := by rw [e0]; omega
  have key : ∀ n : Fin 32, (Scalar.cmpi .ne (Scalar.extui (Scalar.cmpi .eq (BitVec.ofNat 32 n.val) 0#32)) (0#32 : BitVec 32) = 1#1 ↔ n.val = 0) := by
    decide
  unfold isFirst
  rw [e1]
  exact key ⟨t.val, ht⟩

/-- What the body finds, and what it leaves. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The seven buffers, the outputs at `o`. -/
def kept (c : Dev nD) (t : Fin cfg0.N) (o : Acc F) : sProp 𝕄 :=
  iprop(owns (c : Thread nD τ) (st0_0 t) fullShare (scores m c t) ∗ owns (c : Thread nD τ) (st0_1 t) fullShare (targets m c t)
    ∗ outs c (st0_2 t) (st0_3 t) (st0_4 t) (st0_5 t) (st0_6 t) o)

theorem body_run (c : Dev nD) (t : Fin cfg0.N) (o : Acc F) (ho : t.val ≠ 0 → o = held m c (t.val - 1) (Nat.lt_of_le_of_lt (Nat.sub_le _ _) t.isLt))
    {Q : PUnit → sProp 𝕄} :
    iprop(kept m c t o ∗ (kept m c t (held m c t.val t.isLt) -∗ Q ⟨⟩))
      ⊢ wp frame (wpE (defs₀ (F := F)) Variants.none (c : Thread nD τ) none) Set.univ (bodyAt0 t) Q := by
  unfold kept bodyAt0
  by_cases h : t.val = 0
  · rw [body_first _ ((isFirst_iff t).mpr h), held_first m c t h]
    iintro ⟨⟨H1, H2, Ho⟩, Hk⟩
    iapply (first_run Variants.none c Set.univ (st0_0 t) (st0_1 t) (st0_2 t) (st0_3 t) (st0_4 t) (st0_5 t) (st0_6 t) (scores m c t) (targets m c t) o)
    isplitl [H1]; · iexact H1
    isplitl [H2]; · iexact H2
    isplitl [Ho]; · iexact Ho
    iexact Hk
  · rw [body_later _ (fun hf => h ((isFirst_iff t).mp hf)), held_later m c t h, ho h]
    iintro ⟨⟨H1, H2, Ho⟩, Hk⟩
    iapply (rest_run Variants.none c Set.univ (st0_0 t) (st0_1 t) (st0_2 t) (st0_3 t) (st0_4 t) (st0_5 t) (st0_6 t) (scores m c t) (targets m c t))
    isplitl [H1]; · iexact H1
    isplitl [H2]; · iexact H2
    isplitl [Ho]; · iexact Ho
    iexact Hk

/-- What the body finds is the seven buffers at the point's blocks and some outputs, those of the point before at a
    later point. -/
theorem bodyPre_kept (c : Dev nD) (t : Fin cfg0.N) :
    bodyPre m c t ⊢ iprop((dats m 0 c).Φ t.castSucc ∗ (dats m 0 c).owesAt () t.castSucc
      ∗ ∃ o : Acc F, ⌜t.val ≠ 0 → o = held m c (t.val - 1) (Nat.lt_of_le_of_lt (Nat.sub_le _ _) t.isLt)⌝ ∗ kept m c t o) := by
  unfold bodyPre kept outs
  simp only [before_0, before_1]
  iintro ⟨HΦ, Hw, ⟨%d0, H0⟩, ⟨%d1, H1⟩, ⟨%d2, H2⟩, ⟨%d3, H3⟩, ⟨%d4, H4⟩, ⟨%d5, H5⟩, ⟨%d6, H6⟩⟩
  isplitl [HΦ]; · iexact HΦ
  isplitl [Hw]; · iexact Hw
  iexists (⟨(dats m 0 c).before 2 t d2, (dats m 0 c).before 3 t d3, (dats m 0 c).before 4 t d4, (dats m 0 c).before 5 t d5,
    (dats m 0 c).before 6 t d6⟩ : Acc F)
  isplitr
  · ipureintro
    intro h
    rw [before_2 m c t h, before_3 m c t h, before_4 m c t h, before_5 m c t h, before_6 m c t h]
  isplitl [H0]; · iexact H0
  isplitl [H1]; · iexact H1
  isplitl [H2]; · iexact H2
  isplitl [H3]; · iexact H3
  isplitl [H4]; · iexact H4
  isplitl [H5]; · iexact H5
  iexact H6

theorem sound_body (c : Dev nD) (t : Fin cfg0.N) :
    bodyPre m c t ⊢ wp frame (wpE (defs₀ (F := F)) Variants.none (c : Thread nD τ) none) Set.univ (bodyAt0 t) (fun _ => bodyPost m c t) := by
  refine (bodyPre_kept m c t).trans ?_
  rw [show (dats m 0 c).Φ t.castSucc = (dats m 0 c).Φ t.succ from rfl,
    show (dats m 0 c).owesAt () t.castSucc = (dats m 0 c).owesAt () t.succ from rfl]
  iintro ⟨HΦ, Hw, ⟨%o, %ho, H⟩⟩
  iapply (body_run m c t o ho)
  isplitl [H]; · iexact H
  unfold kept outs bodyPost
  rw [after_0, after_1, after_2, after_3, after_4, after_5, after_6]
  iintro ⟨H0, H1, H2, H3, H4, H5, H6⟩
  isplitl [HΦ]; · iexact HΦ
  isplitl [Hw]; · iexact Hw
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every output array ends at what the write-backs leave, the host lines after the call are done, and every
    semaphore counter is zero. -/
theorem run_all : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around cfgs (dats m) 0 launch0 defs₀ Variants.none m ρ main
    (hbody := fun c => (body_obligation m c).loose) (hshare := fun c => (dats m 0 c).share_full fun _ => rfl) (howed := fun _ _ => rfl)
    (V₀ := V0 m) (opss := [hostOps1]) (hsub := sfx_sub) (hfresh := sfx_fresh) (hkeep := sfx_keeps)
    (hmain := hmain m Variants.none) (hA := A_eq m) (hΦ := fun _ _ => rfl) (Q' := _) (hQ' := fun _ h => h)

/-- The frame: the arguments end as they began, and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  θ_run_and (frame_of m ρ (dats m) (A_eq m) ((θ_run defs _ _).mono (fun _ h => h.1) (run_all m ρ)))
    ((θ_run defs _ _).mono (fun _ h => h.2) (run_all m ρ))

end Cert.KernelIdeal.Hand

end
-- ==== Proof.Equation.lean ====
/-
  The equation between the two losses, over the reals: the kernel's five sums put together, and the loss as it is
  written plainly. Rows are numbered by naturals below `n`; `x r c` is row `r`'s score of class `c`, `t r` its target.
-/
module

public import Mathlib.Analysis.SpecialFunctions.Log.Basic
public import Mathlib.Analysis.SpecialFunctions.Pow.Real
public import Mathlib.Algebra.BigOperators.Intervals

@[expose] public section

noncomputable section

namespace Cert.Loss

open scoped BigOperators

variable (x : ℕ → Fin 7 → ℝ) (t : ℕ → Fin 7)

/-- A row's normaliser; a class's probability; the distance of a class from the row's target. -/
def total (r : ℕ) : ℝ := ∑ c, Real.exp (x r c)
def share (r : ℕ) (c : Fin 7) : ℝ := Real.exp (x r c) * (1 / total x r)
def far (r : ℕ) (c : Fin 7) : ℝ := |(c.val : ℝ) - ((t r).val : ℝ)|

theorem total_pos (r : ℕ) : 0 < total x r :=
  Finset.sum_pos (fun c _ => Real.exp_pos (x r c)) ⟨0, Finset.mem_univ _⟩
theorem share_nonneg (r : ℕ) (c : Fin 7) : 0 ≤ share x r c :=
  mul_nonneg (Real.exp_pos _).le (one_div_nonneg.2 (total_pos x r).le)
theorem share_sum (r : ℕ) : ∑ c, share x r c = 1 := by
  unfold share
  rw [← Finset.sum_mul]
  exact mul_one_div_cancel (total_pos x r).ne'

/-- What a row adds to each of the kernel's five sums, per class. -/
def addXt (r : ℕ) (c : Fin 7) : ℝ := if c = t r then x r c else 0
def addLz (r : ℕ) : ℝ := Real.log (total x r) / Real.log 2
def addFw (r : ℕ) (c : Fin 7) : ℝ := if c = t r then (1 - share x r c) * (1 - share x r c) else 0
def addW (r : ℕ) (c : Fin 7) : ℝ := far t r c * share x r c

/-- The kernel's loss of `n` rows, from its five sums. -/
def lossOfSums (n : ℕ) : ℝ :=
  1 / 4 * ((∑ r ∈ Finset.range n, ∑ c, addFw x t r c) / n)
      * (((-9 / 10) * (∑ r ∈ Finset.range n, ∑ c, addXt x t r c) - 1 / 70 * (∑ r ∈ Finset.range n, ∑ c, x r c)
          + Real.log 2 * ∑ r ∈ Finset.range n, addLz x r) / n)
    + 7 / 10 * ((∑ r ∈ Finset.range n, ∑ c, addW x t r c) / n)

/-- The logarithm of a class's probability, as the plain loss computes it: `M r` is taken off every score first. -/
def logShare (M : ℕ → ℝ) (r : ℕ) (c : Fin 7) : ℝ := x r c - M r - Real.log (∑ c', Real.exp (x r c' - M r))
/-- The target as a one-hot row; a row's running sum up to class `j`. -/
def hot (r : ℕ) (c : Fin 7) : ℝ := if t r = c then 1 else 0
def upTo (f : Fin 7 → ℝ) (j : Fin 7) : ℝ := ∑ c, if c ≤ j then f c else 0

/-- The smoothed cross entropy's mean. -/
def crossEntropy (M : ℕ → ℝ) (n : ℕ) : ℝ :=
  -((∑ r ∈ Finset.range n, ∑ c, (hot t r c * (1 - 1 / 10) + 1 / 10 / 7) * logShare x M r c) / n)
/-- The plain loss of `n` rows. -/
def plainLoss (M : ℕ → ℝ) (n : ℕ) : ℝ :=
  (∑ r ∈ Finset.range n, 1 / 4 * (1 - Real.exp (logShare x M r (t r))) ^ (2 : ℝ) * crossEntropy x t M n) / n
    + 3 / 10 * ((∑ r ∈ Finset.range n, ∑ c, far t r c * Real.exp (logShare x M r c)) / n)
    + 4 / 10 * ((∑ r ∈ Finset.range n, ∑ j, |upTo (fun c => Real.exp (logShare x M r c)) j - upTo (hot t r) j|) / n)

/-- Taking the same number off every score changes no probability. -/
theorem logShare_eq (M : ℕ → ℝ) (r : ℕ) (c : Fin 7) : logShare x M r c = x r c - Real.log (total x r) := by
  have h : ∑ c', Real.exp (x r c' - M r) = total x r * Real.exp (-M r) := by
    unfold total; rw [Finset.sum_mul]
    exact Finset.sum_congr rfl fun c' _ => by rw [sub_eq_add_neg, Real.exp_add]
  unfold logShare
  rw [h, Real.log_mul (total_pos x r).ne' (Real.exp_pos _).ne', Real.log_exp]
  ring
theorem exp_logShare (M : ℕ → ℝ) (r : ℕ) (c : Fin 7) : Real.exp (logShare x M r c) = share x r c := by
  rw [logShare_eq, Real.exp_sub, Real.exp_log (total_pos x r)]
  unfold share; ring

/-- A number between 0 and 1 is as far from 0, and from 1, as it is large, and as it falls short of 1. -/
theorem abs_low (a : ℝ) (h : 0 ≤ a) : |a - 0| = a := by rw [sub_zero, abs_of_nonneg h]
theorem abs_high (a : ℝ) (h : a ≤ 1) : |a - 1| = 1 - a := by rw [abs_of_nonpos (by linarith)]; ring

/-- The one-hot row's running sum: 0 below the target, 1 from it on. -/
theorem upTo_hot (r : ℕ) (j : Fin 7) : upTo (hot t r) j = if t r ≤ j then 1 else 0 := by
  unfold upTo hot
  rw [Finset.sum_eq_single (t r) (fun c _ hc => by rw [if_neg (Ne.symm hc), ite_self]) (fun h => absurd (Finset.mem_univ _) h), if_pos rfl]

/-- The distance between the two running sums, added up over the classes, is the probabilities' mean distance from the
    target: running sums below the target are sums of probabilities, those from it on are one less the rest. -/
theorem far_eq_running (r : ℕ) : ∑ j, |upTo (share x r) j - upTo (hot t r) j| = ∑ c, addW x t r c := by
  have h0 := share_nonneg x r
  have h1 := share_sum x r
  have lo : ∀ j, 0 ≤ upTo (share x r) j := fun j => Finset.sum_nonneg fun c _ => by split_ifs; exacts [h0 c, le_rfl]
  have hi : ∀ j, upTo (share x r) j ≤ 1 := fun j => by
    rw [← h1]; exact Finset.sum_le_sum fun c _ => by split_ifs; exacts [le_rfl, h0 c]
  have e : ∀ j, |upTo (share x r) j - upTo (hot t r) j| = if t r ≤ j then 1 - upTo (share x r) j else upTo (share x r) j := fun j => by
    rw [upTo_hot]; split_ifs
    · exact abs_high _ (hi j)
    · exact abs_low _ (lo j)
  rw [Finset.sum_congr rfl fun j _ => e j, ← h1]
  unfold addW far upTo
  generalize share x r = p
  generalize t r = q
  fin_cases q <;> simp +decide [Fin.sum_univ_seven] <;> norm_num [abs_of_nonneg, abs_of_nonpos] <;> ring

theorem rowSmooth (r : ℕ) (M : ℕ → ℝ) :
    ∑ c, (hot t r c * (1 - 1 / 10) + 1 / 10 / 7) * logShare x M r c
      = 9 / 10 * (∑ c, addXt x t r c) + 1 / 70 * (∑ c, x r c) - Real.log (total x r) := by
  have e : ∀ c, (hot t r c * (1 - 1 / 10) + 1 / 10 / 7) * logShare x M r c
      = 9 / 10 * addXt x t r c + 1 / 70 * x r c - (9 / 10 * hot t r c + 1 / 70) * Real.log (total x r) := fun c => by
    rw [logShare_eq]; unfold addXt hot
    by_cases h : t r = c
    · rw [if_pos h, if_pos h.symm]; ring
    · rw [if_neg h, if_neg (Ne.symm h)]; ring
  rw [Finset.sum_congr rfl fun c _ => e c, Finset.sum_sub_distrib, Finset.sum_add_distrib, ← Finset.mul_sum, ← Finset.mul_sum,
    ← Finset.sum_mul, Finset.sum_add_distrib, ← Finset.mul_sum]
  have hh : ∑ c, hot t r c = 1 := by unfold hot; simp
  rw [hh]; simp; ring

theorem addLz_log (r : ℕ) : Real.log 2 * addLz x r = Real.log (total x r) := by
  unfold addLz
  have : Real.log 2 ≠ 0 := (Real.log_pos (by norm_num)).ne'
  field_simp

theorem crossEntropy_eq (M : ℕ → ℝ) (n : ℕ) : crossEntropy x t M n
    = ((-9 / 10) * (∑ r ∈ Finset.range n, ∑ c, addXt x t r c) - 1 / 70 * (∑ r ∈ Finset.range n, ∑ c, x r c)
          + Real.log 2 * ∑ r ∈ Finset.range n, addLz x r) / n := by
  unfold crossEntropy
  rw [Finset.sum_congr rfl fun r _ => rowSmooth x t r M, Finset.sum_sub_distrib, Finset.sum_add_distrib, ← Finset.mul_sum,
    ← Finset.mul_sum, Finset.mul_sum (a := Real.log 2), Finset.sum_congr rfl fun r _ => addLz_log x r]
  ring

/-- The two losses are one number. -/
theorem losses_agree (M : ℕ → ℝ) (n : ℕ) : plainLoss x t M n = lossOfSums x t n := by
  have hfw : ∀ r, ∑ c, addFw x t r c = (1 - share x r (t r)) ^ (2 : ℝ) := fun r => by
    unfold addFw
    rw [Finset.sum_ite_eq' Finset.univ (t r), if_pos (Finset.mem_univ _)]
    rw [show (2 : ℝ) = ((2 : ℕ) : ℝ) by norm_num, Real.rpow_natCast]; ring
  unfold plainLoss lossOfSums
  rw [crossEntropy_eq]
  simp only [exp_logShare, hfw]
  have hw : ∀ r, ∑ j, |upTo (fun c => share x r c) j - upTo (hot t r) j| = ∑ c, addW x t r c := far_eq_running x t
  rw [Finset.sum_congr rfl fun r _ => hw r, ← Finset.sum_mul, ← Finset.mul_sum]
  unfold addW
  ring

/-- A sum over rows, as a sum over the rows of each chunk of `b`. -/
theorem sum_rows (f : ℕ → ℝ) (a b : ℕ) :
    ∑ r ∈ Finset.range (b * a), f r = ∑ j ∈ Finset.range a, ∑ l ∈ Finset.range b, f (b * j + l) := by
  induction a with
  | zero => simp
  | succ a ih => rw [Nat.mul_succ, Finset.sum_range_add, ih, Finset.sum_range_succ]

end Cert.Loss

end
-- ==== Proof.Words.lean ====
/-
  What the programs' float words are, as extended reals.
-/
module

public import Idealize.ShloMosaic.PureOps.Ideal
public import Idealize.ShloMosaic.Lib.IdealHost

@[expose] public section

namespace Cert.Loss.Words

open Idealize.ShloMosaic

theorem w0 : Ideal.ofBits .f32 0x00000000#32 = ((0 : ℝ) : EReal) := by simp [Ideal.ofBits, Ideal.ieee, -EReal.coe_mul]
theorem w1 : Ideal.ofBits .f32 0x3F800000#32 = ((1 : ℝ) : EReal) := by simp [Ideal.ofBits, Ideal.ieee, -EReal.coe_mul]; norm_num
theorem w2 : Ideal.ofBits .f32 0x40000000#32 = ((2 : ℝ) : EReal) := by simp [Ideal.ofBits, Ideal.ieee, -EReal.coe_mul]; norm_num
theorem w3 : Ideal.ofBits .f32 0x40400000#32 = ((3 : ℝ) : EReal) := by simp [Ideal.ofBits, Ideal.ieee, -EReal.coe_mul]; norm_num
theorem w4 : Ideal.ofBits .f32 0x40800000#32 = ((4 : ℝ) : EReal) := by simp [Ideal.ofBits, Ideal.ieee, -EReal.coe_mul]; norm_num
theorem w7 : Ideal.ofBits .f32 0x40E00000#32 = ((7 : ℝ) : EReal) := by simp [Ideal.ofBits, Ideal.ieee, -EReal.coe_mul]; norm_num
theorem w10 : Ideal.ofBits .f32 0x41200000#32 = ((10 : ℝ) : EReal) := by simp [Ideal.ofBits, Ideal.ieee, -EReal.coe_mul]; norm_num
theorem w70 : Ideal.ofBits .f32 0x428C0000#32 = ((70 : ℝ) : EReal) := by simp [Ideal.ofBits, Ideal.ieee, -EReal.coe_mul]; norm_num
theorem wm9 : Ideal.ofBits .f32 0xC1100000#32 = ((-9 : ℝ) : EReal) := by simp [Ideal.ofBits, Ideal.ieee, -EReal.coe_mul]; norm_num
theorem wq : Ideal.ofBits .f32 0x3E800000#32 = ((1 / 4 : ℝ) : EReal) := by simp [Ideal.ofBits, Ideal.ieee, -EReal.coe_mul]; norm_num
theorem wB : Ideal.ofBits .f32 0x4A800000#32 = ((4194304 : ℝ) : EReal) := by simp [Ideal.ofBits, Ideal.ieee, -EReal.coe_mul]; norm_num
theorem wtop : Ideal.ofBits .f32 0x7F800000#32 = (⊤ : EReal) := by simp [Ideal.ofBits, Ideal.ieee]
theorem wbot : Ideal.ofBits .f32 0xFF800000#32 = (⊥ : EReal) := by simp [Ideal.ofBits, Ideal.ieee]
theorem wb1 : Ideal.ofBits .bf16 0x3F80#16 = ((1 : ℝ) : EReal) := by simp [Ideal.ofBits, Ideal.ieee, -EReal.coe_mul]; norm_num

end Cert.Loss.Words
-- ==== Proof.Finite.lean ====
/-
  The operations' values at real numbers: each answers the real number that the operation of that name does.
-/
module

public import proofs.«01_k».proof.Proof.Words
public import Idealize.ShloMosaic.Lib.ValueIdx
public import Idealize.ShloMosaic.Lib.ValueLayout
public import Idealize.ShloMosaic.Lib.IdealHost

@[expose] public section

namespace Cert.Loss

open Idealize.ShloMosaic Idealize.ShloMosaic.ValueIdx
open scoped BigOperators

/-- A sum of reals is a real. -/
theorem coe_total {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem coe_quot (x y : ℝ) (h : y ≠ 0) : Ideal.div (x : EReal) (y : EReal) = ((x / y : ℝ) : EReal) := by
  rw [Ideal.div_coe h, ← EReal.coe_mul, mul_one_div]

theorem coe_far (x : ℝ) : max (x : EReal) (-(x : EReal)) = ((|x| : ℝ) : EReal) := by
  rw [← EReal.coe_neg, abs_eq_max_neg]
  exact (EReal.coe_strictMono.monotone.map_max (a := x) (b := -x)).symm

theorem coe_log (x : ℝ) (h : 0 < x) : Ideal.log (x : EReal) = ((Real.log x : ℝ) : EReal) := by
  rw [Ideal.log_coe, if_neg (not_le.2 h)]

theorem coe_max (x y : ℝ) : max (x : EReal) (y : EReal) = ((max x y : ℝ) : EReal) :=
  (EReal.coe_strictMono.monotone.map_max (a := x) (b := y)).symm

/-- A class as a 32-bit word is that number again, signed or not. -/
theorem word_toInt (c : Fin 7) : (BitVec.ofNat 32 c.val).toInt = (c.val : ℤ) := by
  fin_cases c <;> decide
theorem word_toNat (c : Fin 7) : (BitVec.ofNat 32 c.val).toNat = c.val := by
  fin_cases c <;> decide
theorem word_eq (c d : Fin 7) : BitVec.ofNat 32 c.val = BitVec.ofNat 32 d.val ↔ c = d := by
  constructor
  · intro h; exact Fin.ext (by rw [← word_toNat c, ← word_toNat d, h])
  · rintro rfl; rfl
theorem coe_class (c : Fin 7) : (FloatOps.sitofp (F := Ideal) .f32 (BitVec.ofNat 32 c.val) : EReal) = ((c.val : ℝ) : EReal) := by
  show (((BitVec.ofNat 32 c.val).toInt : ℝ) : EReal) = _
  rw [word_toInt]; norm_cast

theorem class_inj (c d : Fin 7) : ((c.val : ℝ) : EReal) = ((d.val : ℝ) : EReal) ↔ c = d := by
  rw [EReal.coe_eq_coe_iff, Nat.cast_inj, Fin.val_inj]

/-- The host's sum of a whole matrix, or of a whole vector, from 0. -/
theorem host_total2 {a b : ℕ} {axes : List (Fin 2)} (X : FVec Ideal ⟨2, ![a, b]⟩ .f32) (f : Fin a → Fin b → ℝ)
    (hX : ∀ i l, X (ix2 i l) = ((f i l : ℝ) : EReal)) (h : (⟨2, ![a, b]⟩ : Shape).ReducesTo axes ⟨0, ![]⟩) (hu : 0 < (⟨0, ![]⟩ : Shape).numel)
    (j : (⟨0, ![]⟩ : Shape).Idx) :
    Host.reduceAdd X (constant ⟨0, ![]⟩ .f32 0x00000000#32) h hu j = ((∑ i, ∑ l, f i l : ℝ) : EReal) := by
  rw [hostReduceAdd_apply]
  show Ideal.ofBits .f32 0x00000000#32 + ∑ i ∈ Finset.univ.filter (fun i => h.drop i = j), X i = _
  rw [Finset.filter_true_of_mem fun i _ => (eq_ix0 _).trans (eq_ix0 j).symm, sum_idx2, Words.w0]
  simp only [hX, coe_total]
  rw [← EReal.coe_add, zero_add]
theorem host_total1 {a : ℕ} {axes : List (Fin 1)} (X : FVec Ideal ⟨1, ![a]⟩ .f32) (f : Fin a → ℝ)
    (hX : ∀ i, X (ix1 i) = ((f i : ℝ) : EReal)) (h : (⟨1, ![a]⟩ : Shape).ReducesTo axes ⟨0, ![]⟩) (hu : 0 < (⟨0, ![]⟩ : Shape).numel)
    (j : (⟨0, ![]⟩ : Shape).Idx) :
    Host.reduceAdd X (constant ⟨0, ![]⟩ .f32 0x00000000#32) h hu j = ((∑ i, f i : ℝ) : EReal) := by
  rw [hostReduceAdd_apply]
  show Ideal.ofBits .f32 0x00000000#32 + ∑ i ∈ Finset.univ.filter (fun i => h.drop i = j), X i = _
  rw [Finset.filter_true_of_mem fun i _ => (eq_ix0 _).trans (eq_ix0 j).symm, Words.w0]
  have e : ∑ i, X i = ∑ i : Fin a, X (ix1 i) :=
    (Fintype.sum_equiv ⟨ix1, fun i => i 0, fun _ => rfl, fun i => (eq_ix1 i).symm⟩ _ _ fun _ => rfl).symm
  rw [e]
  simp only [hX, coe_total]
  rw [← EReal.coe_add, zero_add]

/-- The host's row sums of a matrix, from 0. -/
theorem host_rows {a b : ℕ} (X : FVec Ideal ⟨2, ![a, b]⟩ .f32) (f : Fin a → Fin b → ℝ)
    (hX : ∀ i l, X (ix2 i l) = ((f i l : ℝ) : EReal)) (h : (⟨2, ![a, b]⟩ : Shape).ReducesTo [1] ⟨1, ![a]⟩) (hu : 0 < (⟨0, ![]⟩ : Shape).numel)
    (i : Fin a) :
    Host.reduceAdd X (constant ⟨0, ![]⟩ .f32 0x00000000#32) h hu (ix1 i) = ((∑ l, f i l : ℝ) : EReal) := by
  rw [hostReduceAdd_apply]
  show Ideal.ofBits .f32 0x00000000#32 + ∑ q ∈ Finset.univ.filter (fun q => h.drop q = ix1 i), X q = _
  rw [Finset.sum_filter, sum_idx2, Words.w0, Finset.sum_eq_single i]
  · have e : ∀ l, h.drop (ix2 i l) = ix1 i := fun l => by funext d; match d with | ⟨0, _⟩ => rfl
    simp only [e, if_true, hX, coe_total]
    rw [← EReal.coe_add, zero_add]
  · intro k _ hk
    refine Finset.sum_eq_zero fun l _ => if_neg fun he => hk ?_
    exact congrFun he 0
  · exact fun hn => absurd (Finset.mem_univ _) hn

end Cert.Loss
-- ==== Proof.KernelSums.lean ====
/-
  The kernel's five sums over the extended reals: after the chunks `a` to `b`, chunk `j` holding the rows `128 j` to
  `128 j + 127`, one per lane, each sum is the real sum of what those rows add to it.
-/
module

public import proofs.«01_k».proof.Proof.Steps
public import proofs.«01_k».proof.Proof.Equation
public import proofs.«01_k».proof.Proof.Finite

@[expose] public section

noncomputable section

namespace Cert.Loss

open Idealize.ShloMosaic Idealize.ShloMosaic.ValueIdx
open scoped BigOperators

variable (x : ℕ → Fin 7 → ℝ) (t : ℕ → Fin 7)

/-- The scores, and the targets, of the rows of chunk `j`. -/
def IsScores (X : FVec Ideal S7 .f32) (j : ℕ) : Prop := ∀ (c : Fin 7) (l : Fin 128), X (ix2 c l) = ((x (128 * j + l.val) c : ℝ) : EReal)
def IsTargets (T : Vec Ideal S1 .i32) (j : ℕ) : Prop := ∀ l : Fin 128, T (ix2 0 l) = BitVec.ofNat 32 (t (128 * j + l.val)).val

/-- Every sum is that of the chunks from `a` up to `b`. -/
structure Tot (s : Acc Ideal) (a b : ℕ) : Prop where
  xt : ∀ (c : Fin 7) (l : Fin 128), s.xt (ix2 c l) = ((∑ j ∈ Finset.Ico a b, addXt x t (128 * j + l.val) c : ℝ) : EReal)
  sx : ∀ (c : Fin 7) (l : Fin 128), s.sx (ix2 c l) = ((∑ j ∈ Finset.Ico a b, x (128 * j + l.val) c : ℝ) : EReal)
  lz : ∀ l : Fin 128, s.lz (ix2 0 l) = ((∑ j ∈ Finset.Ico a b, addLz x (128 * j + l.val) : ℝ) : EReal)
  fw : ∀ (c : Fin 7) (l : Fin 128), s.fw (ix2 c l) = ((∑ j ∈ Finset.Ico a b, addFw x t (128 * j + l.val) c : ℝ) : EReal)
  w : ∀ (c : Fin 7) (l : Fin 128), s.w (ix2 c l) = ((∑ j ∈ Finset.Ico a b, addW x t (128 * j + l.val) c : ℝ) : EReal)

/-- No chunk yet: zero. -/
theorem tot_zero (a : ℕ) : Tot x t Acc.zero a a := by
  constructor <;> intros <;> rw [Finset.Ico_self, Finset.sum_empty] <;> exact Words.w0

theorem classes_at (c : Fin 7) (l : Fin 128) : (classes : FVec Ideal S7 .f32) (ix2 c l) = ((c.val : ℝ) : EReal) := by
  unfold classes
  rw [sitofp_apply, iota_single_apply, coe_class c]
theorem ln2_at (i : S1.Idx) : (ln2 : FVec Ideal S1 .f32) i = ((Real.log 2 : ℝ) : EReal) := by
  show Ideal.log (Ideal.ofBits .f32 0x40000000#32) = _
  rw [Words.w2, coe_log _ two_pos]

variable {x t}
variable {X : FVec Ideal S7 .f32} {T : Vec Ideal S1 .i32} {j : ℕ}

theorem target_at (hT : IsTargets t T j) (c : Fin 7) (l : Fin 128) :
    (target T : FVec Ideal S7 .f32) (ix2 c l) = (((t (128 * j + l.val)).val : ℝ) : EReal) := by
  unfold target
  rw [broadcastTo_1b_ab_apply, shapeCast_self, shapeCast_self, sitofp_apply, hT l, coe_class]

theorem norm_at (hX : IsScores x X j) (a : Fin 8) (l : Fin 128) :
    (norm X : FVec Ideal S8 .f32) (ix2 a l) = ((total x (128 * j + l.val) : ℝ) : EReal) := by
  unfold norm
  show Ideal.ofBits .f32 0x00000000#32 + ∑ k : dims.contr.Idx,
    Ideal.ofBits .bf16 0x3F80#16 * Ideal.exp (X (dims.rhsIdx (ix2 a l) k)) = _
  rw [Words.w0, Words.wb1, ← Equiv.sum_comp (contrEquiv1 dims 7 rfl rfl).symm]
  have e : ∀ k : Fin 7, dims.rhsIdx (ix2 a l) ((contrEquiv1 dims 7 rfl rfl).symm k) = ix2 k l := fun k => by
    funext d
    match d with
    | ⟨0, _⟩ => rfl
    | ⟨1, _⟩ => rfl
  simp only [e, hX _ _, Ideal.exp_coe, ← EReal.coe_mul, one_mul]
  rw [coe_total, ← EReal.coe_add, zero_add]
  rfl

theorem prob_at (hX : IsScores x X j) (c : Fin 7) (l : Fin 128) :
    (prob X : FVec Ideal S7 .f32) (ix2 c l) = ((share x (128 * j + l.val) c : ℝ) : EReal) := by
  unfold prob
  rw [mulf_apply, divf_apply, slice2_axis0_apply 0 _ top7 c l ⟨c.val, by omega⟩ (by simp), norm_at hX]
  show Ideal.exp (X (ix2 c l)) * Ideal.div (Ideal.ofBits .f32 0x3F800000#32) _ = _
  rw [Words.w1, hX, coe_quot _ _ (total_pos x _).ne', Ideal.exp_coe, ← EReal.coe_mul]
  rfl

/-- The choice of what is at the target's class, and 0 elsewhere. -/
theorem at_target (hT : IsTargets t T j) (c : Fin 7) (l : Fin 128) (Y : FVec Ideal S7 .f32) (y : ℝ) (hY : Y (ix2 c l) = (y : EReal)) :
    select (cmpf .oeq (classes : FVec Ideal S7 .f32) (target T)) Y (broadcast S7 (Scalar.ofBits .f32 0x00000000#32)) (ix2 c l)
      = ((if c = t (128 * j + l.val) then y else 0 : ℝ) : EReal) := by
  rw [select_apply, cmpf_apply, classes_at, target_at hT]
  show Scalar.select (BitVec.ofBool (decide (((c.val : ℝ) : EReal) = (((t (128 * j + l.val)).val : ℝ) : EReal)))) _ (Ideal.ofBits .f32 0x00000000#32) = _
  by_cases h : c = t (128 * j + l.val)
  · rw [decide_eq_true ((class_inj _ _).2 h), if_pos h]; exact hY
  · rw [decide_eq_false (fun e => h ((class_inj _ _).1 e)), if_neg h]; exact Words.w0

/-- One chunk more. -/
theorem tot_chunk {s : Acc Ideal} {a : ℕ} (h : a ≤ j) (hs : Tot x t s a j) (hX : IsScores x X j) (hT : IsTargets t T j) :
    Tot x t (chunk s X T) a (j + 1) := by
  constructor
  · intro c l
    show addf _ _ _ = _
    rw [addf_apply, hs.xt, at_target hT c l X _ (hX c l), ← EReal.coe_add, Finset.sum_Ico_succ_top h]; rfl
  · intro c l
    show addf _ _ _ = _
    rw [addf_apply, hs.sx, hX, ← EReal.coe_add, Finset.sum_Ico_succ_top h]
  · intro l
    show addf _ _ _ = _
    rw [addf_apply, hs.lz, divf_apply, ln2_at]
    show _ + Ideal.div (Ideal.log (extractStridedSlice S1 ![0, 0] (norm X) top1 (ix2 0 l))) _ = _
    rw [slice2_axis0_apply 0 _ top1 0 l 0 rfl, norm_at hX, coe_log _ (total_pos x _), coe_quot _ _ (Real.log_pos one_lt_two).ne',
      ← EReal.coe_add, Finset.sum_Ico_succ_top h]; rfl
  · intro c l
    show addf _ _ _ = _
    have hp : mulf (subf (broadcast S7 (Scalar.ofBits .f32 0x3F800000#32)) (prob X))
        (subf (broadcast S7 (Scalar.ofBits .f32 0x3F800000#32)) (prob X)) (ix2 c l)
        = (((1 - share x (128 * j + l.val) c) * (1 - share x (128 * j + l.val) c) : ℝ) : EReal) := by
      rw [mulf_apply, subf_apply, prob_at hX]
      show (Ideal.ofBits .f32 0x3F800000#32 - _) * (Ideal.ofBits .f32 0x3F800000#32 - _) = _
      rw [Words.w1, ← EReal.coe_sub, ← EReal.coe_mul]
    rw [addf_apply, hs.fw, at_target hT c l _ _ hp, ← EReal.coe_add, Finset.sum_Ico_succ_top h]; rfl
  · intro c l
    show addf _ _ _ = _
    rw [addf_apply, hs.w, mulf_apply, prob_at hX]
    show _ + max (subf classes (target T) (ix2 c l)) (-(subf classes (target T) (ix2 c l))) * _ = _
    rw [subf_apply, classes_at, target_at hT, ← EReal.coe_sub, coe_far, ← EReal.coe_mul, ← EReal.coe_add, Finset.sum_Ico_succ_top h]; rfl

/-- A point's chunks. -/
theorem tot_fold (Xb : Vec Ideal SX .f32) (Tb : Vec Ideal ST .i32) (base : ℕ)
    (hX : ∀ k (h : k < 1024), IsScores x (cut Xb k h) (base + k)) (hT : ∀ k (h : k < 1024), IsTargets t (row Tb k h) (base + k))
    (n k : ℕ) (h : k + n ≤ 1024) (s : Acc Ideal) (a : ℕ) (ha : a ≤ base + k) (hs : Tot x t s a (base + k)) :
    Tot x t (fold Xb Tb n k h s) a (base + k + n) := by
  induction n generalizing k s with
  | zero => exact hs
  | succ n ih =>
    have := ih (k + 1) (by omega) (chunk s (shapeCast S7 (cut Xb k (by omega)) cast7) (row Tb k (by omega))) (by omega)
      (tot_chunk ha hs (by rw [shapeCast_self]; exact hX k (by omega)) (hT k (by omega)))
    rw [show base + (k + 1) + n = base + k + (n + 1) by omega] at this
    exact this

/-- Two stretches of chunks, the one after the other. -/
theorem tot_plus {o s : Acc Ideal} {a b d : ℕ} (hab : a ≤ b) (hbd : b ≤ d) (ho : Tot x t o a b) (hs : Tot x t s b d) : Tot x t (o.plus s) a d := by
  constructor
  · intro c l
    show addf _ _ _ = _
    rw [shapeCast_self, addf_apply, ho.xt, hs.xt, ← EReal.coe_add, Finset.sum_Ico_consecutive _ hab hbd]
  · intro c l
    show addf _ _ _ = _
    rw [shapeCast_self, addf_apply, ho.sx, hs.sx, ← EReal.coe_add, Finset.sum_Ico_consecutive _ hab hbd]
  · intro l
    show addf _ _ _ = _
    rw [shapeCast_self, addf_apply, ho.lz, hs.lz, ← EReal.coe_add, Finset.sum_Ico_consecutive _ hab hbd]
  · intro c l
    show addf _ _ _ = _
    rw [shapeCast_self, addf_apply, ho.fw, hs.fw, ← EReal.coe_add, Finset.sum_Ico_consecutive _ hab hbd]
  · intro c l
    show addf _ _ _ = _
    rw [shapeCast_self, addf_apply, ho.w, hs.w, ← EReal.coe_add, Finset.sum_Ico_consecutive _ hab hbd]

/-- A point's sums, from zero. -/
theorem tot_sums (Xb : Vec Ideal SX .f32) (Tb : Vec Ideal ST .i32) (base : ℕ)
    (hX : ∀ k (h : k < 1024), IsScores x (cut Xb k h) (base + k)) (hT : ∀ k (h : k < 1024), IsTargets t (row Tb k h) (base + k)) :
    Tot x t (sums Xb Tb) base (base + 1024) :=
  tot_fold Xb Tb base hX hT 1024 0 (by omega) Acc.zero base (by omega) (tot_zero x t base)

end Cert.Loss

end
-- ==== Proof.Data.lean ====
/-
  The arguments as real scores and classes, row by row, under the precondition: every score is finite and every target
  is one of the 7 classes.
-/
module

public import proofs.«01_k».proof.Proof.Finite
public import proofs.«01_k».proof.Pre_finite_scores_and_classes

@[expose] public section

noncomputable section

namespace Cert.Loss

open Idealize.ShloMosaic Idealize.ShloMosaic.ValueIdx

abbrev SB7 : Shape := ⟨2, ![4194304, 7]⟩
abbrev SB : Shape := ⟨1, ![4194304]⟩

variable (X : FVec Ideal SB7 .f32) (T : IVec SB 32)

/-- Row `r`'s score of class `c`, and row `r`'s target; past the last row, 0. -/
def scoreOf (r : ℕ) (c : Fin 7) : ℝ := if h : r < 4194304 then EReal.toReal (X (ix2 ⟨r, h⟩ c)) else 0
def classOf (r : ℕ) : Fin 7 := if h : r < 4194304 then Fin.ofNat 7 (T (ix1 ⟨r, h⟩)).toNat else 0

/-- What the precondition says: the scores are those reals, and the targets those classes. -/
structure Good : Prop where
  score : ∀ (r : ℕ) (h : r < 4194304) (c : Fin 7), X (ix2 ⟨r, h⟩ c) = ((scoreOf X r c : ℝ) : EReal)
  target : ∀ (r : ℕ) (h : r < 4194304), T (ix1 ⟨r, h⟩) = BitVec.ofNat 32 (classOf T r).val

/-- A number whose magnitude is below infinity is a real. -/
theorem real_of_far_lt_top (e : EReal) (h : max e (-e) < ⊤) : e = ((EReal.toReal e : ℝ) : EReal) := by
  refine (EReal.coe_toReal ?_ ?_).symm
  · rintro rfl; simp at h
  · rintro rfl; simp at h

/-- A word that is at least 0 and below 7, as a signed number, is a class. -/
theorem class_of_range (b : BitVec 32) (h0 : (0#32).sle b = true) (h7 : b.slt 7#32 = true) : b = BitVec.ofNat 32 (Fin.ofNat 7 b.toNat).val := by
  rw [BitVec.sle_eq_decide, decide_eq_true_eq] at h0
  rw [BitVec.slt_eq_decide, decide_eq_true_eq] at h7
  have e7 : (7#32 : BitVec 32).toInt = 7 := by decide
  have e0 : (0#32 : BitVec 32).toInt = 0 := by decide
  rw [e0] at h0
  rw [e7] at h7
  have hb : b.toNat < 7 := by rw [BitVec.toInt_eq_toNat_cond] at h0 h7; split_ifs at h0 h7 <;> omega
  apply BitVec.eq_of_toNat_eq
  show b.toNat = (BitVec.ofNat 32 (b.toNat % 7)).toNat
  rw [BitVec.toNat_ofNat, Nat.mod_eq_of_lt hb, Nat.mod_eq_of_lt (by omega)]

theorem good_of_pre [Cert.Pre_finite_scores_and_classes.Facts]
    (h : (Cert.Pre_finite_scores_and_classes.fn (F := Ideal) X T).1 = (fun _ => 1#1)
      ∧ (Cert.Pre_finite_scores_and_classes.fn (F := Ideal) X T).2 = (fun _ => 1#1)) : Good X T := by
  obtain ⟨h1, h2⟩ := h
  constructor
  · intro r hr c
    unfold scoreOf
    rw [dif_pos hr]
    apply real_of_far_lt_top
    have := congrFun h1 (ix2 ⟨r, hr⟩ c)
    unfold Cert.Pre_finite_scores_and_classes.fn at this
    dsimp only at this
    rw [cmpf_apply, broadcastInDim_scalar_apply] at this
    have hlt : BitVec.ofBool (decide (max (X (ix2 ⟨r, hr⟩ c)) (-(X (ix2 ⟨r, hr⟩ c))) < Ideal.ofBits .f32 0x7F800000#32)) = 1#1 := this
    rw [Words.wtop] at hlt
    by_contra hn
    rw [decide_eq_false hn] at hlt
    exact absurd hlt (by decide)
  · intro r hr
    unfold classOf
    rw [dif_pos hr]
    have := congrFun h2 (ix1 ⟨r, hr⟩)
    unfold Cert.Pre_finite_scores_and_classes.fn at this
    dsimp only at this
    have hb : BitVec.ofBool ((0#32).sle (T (ix1 ⟨r, hr⟩))) &&& BitVec.ofBool ((T (ix1 ⟨r, hr⟩)).slt 7#32) = 1#1 := this
    apply class_of_range
    · cases hc : (0#32).sle (T (ix1 ⟨r, hr⟩))
      · rw [hc] at hb; exact absurd hb (by cases (T (ix1 ⟨r, hr⟩)).slt 7#32 <;> decide)
      · rfl
    · cases hc : (T (ix1 ⟨r, hr⟩)).slt 7#32
      · rw [hc] at hb; exact absurd hb (by cases (0#32).sle (T (ix1 ⟨r, hr⟩)) <;> decide)
      · rfl

end Cert.Loss

end
-- ==== Proof.KernelArrays.lean ====
/-
  The kernel's five result arrays over the extended reals, under the precondition: the last point's sums, those of all
  4194304 rows, 128 lanes of 32768 chunks.
-/
module

public import proofs.«01_k».proof.Proof.KernelIdealRun
public import proofs.«01_k».proof.Proof.KernelSums
public import proofs.«01_k».proof.Proof.Data
public import Idealize.ShloMosaic.Lib.Pipeline.Value
public import Idealize.ShloMosaic.Lib.StableHlo.Run

@[expose] public section

noncomputable section

namespace Cert.KernelIdeal.Hand

open Idealize.ShloMosaic Idealize.ShloMosaic.TcCoe Idealize.ShloMosaic.ValueIdx Idealize.SL.Sem
open Idealize.ShloMosaic.Pipeline (Dat)
open Cert.Loss Cert.KernelIdeal Cert.KernelIdeal.Gen

section Blocks

variable {F : FTy → Type} [FloatOps F]
variable (m : (ℓ : Loc nD τ sig) → Buf (Elt F) ℓ)

/-- Point `t`'s block of scores is the `t`-th along the rows, and so is its block of targets. -/
theorem block_at : ∀ t : Fin cfg0.N, (win0_0.index t 0 = 0 ∧ win0_0.index t 1 = t.val) ∧ (win0_1.index t 0 = t.val ∧ win0_1.index t 1 = 0) := by
  decide +kernel

/-- The region finds the scores transposed, and the targets 128 to a row. -/
theorem V_main_v0 (c : Dev nD) : (V m c main_v0 : Vec F S7x4194304 .f32)
    = transpose S7x4194304 [1, 0] (m ((c : Thread nD τ).loc main_arg0) : Vec F S4194304x7 .f32) transposes_S4194304x7_S7x4194304_1_0 := by
  show StableHlo.after hostOps0 _ _ = _
  simp only [hostOps0]
  after_results_simp <;> rfl
theorem V_main_v1 (c : Dev nD) : (V m c main_v1 : Vec F S32768x128 .i32)
    = shapeCast S32768x128 (m ((c : Thread nD τ).loc main_arg1) : Vec F S4194304 .i32) shapeCasts_S4194304_S32768x128 := by
  show StableHlo.after hostOps0 _ _ = _
  simp only [hostOps0]
  after_results_simp <;> rfl

/-- An entry of a chunk of point `t`'s scores is one of the argument. -/
theorem scores_at (c : Dev nD) (t : Fin cfg0.N) (k : ℕ) (hk : k < 1024) (i : Fin 7) (l : Fin 128) (r : Fin 4194304)
    (hr : r.val = 128 * (1024 * t.val + k) + l.val) :
    cut (scores m c t) k hk (ix2 i l) = (m ((c : Thread nD τ).loc main_arg0) : Vec F S4194304x7 .f32) (ix2 r i) := by
  have e : cut (scores m c t) k hk (ix2 i l) = (V m c main_v0 : Vec F S7x4194304 .f32) (ix2 i r) := by
    unfold cut scores iblk View.ld
    rw [View.read_apply]
    show (V m c main_v0 : Vec F S7x4194304 .f32) _ = _
    congr 1
    funext a
    apply Fin.ext
    match a with
    | ⟨0, _⟩ =>
      show win0_0.index t 0 * 7 + 1 * (0 + 1 * i.val) = i.val
      rw [(block_at t).1.1]; omega
    | ⟨1, _⟩ =>
      show win0_0.index t 1 * 131072 + 1 * (128 * k + 1 * l.val) = r.val
      rw [(block_at t).1.2, hr]; omega
  rw [e, V_main_v0, transpose_ix2_apply]

/-- A vector put 128 to a row. -/
theorem cast_rows {α : Type} (x : S4194304.Idx → α) (h : S4194304.ShapeCasts S32768x128) (q : Fin 32768) (l : Fin 128) (r : Fin 4194304)
    (hr : r.val = q.val * 128 + l.val) : shapeCast S32768x128 x h (ix2 q l) = x (ix1 r) := by
  refine shapeCast_apply _ _ _ _ ?_
  rw [Shape.rowMajor_val_two, Shape.rowMajor_val_one]
  exact hr

theorem targets_at (c : Dev nD) (t : Fin cfg0.N) (k : ℕ) (hk : k < 1024) (l : Fin 128) (r : Fin 4194304)
    (hr : r.val = 128 * (1024 * t.val + k) + l.val) :
    row (targets m c t) k hk (ix2 0 l) = (m ((c : Thread nD τ).loc main_arg1) : Vec F S4194304 .i32) (ix1 r) := by
  have hq : 1024 * t.val + k < 32768 := by omega
  have e : row (targets m c t) k hk (ix2 0 l) = (V m c main_v1 : Vec F S32768x128 .i32) (ix2 ⟨1024 * t.val + k, hq⟩ l) := by
    unfold row targets iblk View.ld
    rw [View.read_apply]
    show (V m c main_v1 : Vec F S32768x128 .i32) _ = _
    congr 1
    funext a
    apply Fin.ext
    match a with
    | ⟨0, _⟩ =>
      show win0_1.index t 0 * 1024 + 1 * (k + 1 * 0) = 1024 * t.val + k
      rw [(block_at t).2.1]; omega
    | ⟨1, _⟩ =>
      show win0_1.index t 1 * 128 + 1 * (0 + 1 * l.val) = l.val
      rw [(block_at t).2.2]; omega
  rw [e, V_main_v1]
  exact cast_rows _ _ _ _ _ (by dsimp only; omega)

/-- The last point. -/
def last : Fin cfg0.N := ⟨31, by rw [show cfg0.N = 32 from N_0]; omega⟩
theorem eq_last (t : Fin cfg0.N) (h : t.val % 32 = 31) : t = last :=
  Fin.ext (by have := t.isLt; have hN : cfg0.N = 32 := N_0; show t.val = 31; omega)

/-- An output window is written back once, at the last point, and its block is the whole array: the array ends holding
    what the point left. -/
theorem arr_of_last (c : Dev nD) (w : Fin cfg0.W) (R : Buf (Elt F) ((c : Thread nD τ).loc (Pipeline.arrRef spec0 w)))
    (hf : ∀ t, (cfg0.win w).flush t = true ↔ t.val % 32 = 31)
    (hR : (cfg0.win w).cut (grid0.coords last) ((dats m 0 c).after w last) = ((cfg0.win w).blk last).view.read (Elt F) R)
    (hi : ∀ i, i ∈ ((cfg0.win w).blk last).view.set) : (dats m 0 c).arrAt w cfg0.N = R :=
  (dats m 0 c).arrAt_eq_of_cover w R (fun t ht => by obtain rfl := eq_last t ((hf t).mp ht); exact hR)
    fun i => ⟨last, (hf last).mpr rfl, hi i⟩

/-- Each output's block starts at the array's origin. -/
theorem at_origin {s : Shape} (index : Fin s.rank → ℕ) (h : ∀ a, index a = 0) : (fun a => index a * s.size a) = fun _ => 0 :=
  funext fun a => by rw [h a, Nat.zero_mul]

/-- The five result arrays: the outputs after the last point. -/
theorem arr_xt (c : Dev nD) : (dats m 0 c).arrAt 2 cfg0.N = (held m c last.val last.isLt).xt :=
  have hz := at_origin (s := main_v2_0.ty.shape) (win0_2.index last) (by decide)
  arr_of_last m c 2 _ flush0_2
    ((congrArg ((cfg0.win 2).cut (grid0.coords last)) (after_2 m c last)).trans
      (Memref.read_access_unit_zero (Elt F) main_v2_0 hz (fun a => by rw [congrFun hz a]; simp) (held m c last.val last.isLt).xt).symm)
    fun i => by
      show i ∈ ((View.whole main_v2_0).slice (win0_2.rect last)).set
      rw [View.set_slice_whole, Rect.mem_set_unit]
      intro a
      fin_cases a <;> exact ⟨Nat.zero_le _, (i _).isLt⟩
theorem arr_sx (c : Dev nD) : (dats m 0 c).arrAt 3 cfg0.N = (held m c last.val last.isLt).sx :=
  have hz := at_origin (s := main_v2_1.ty.shape) (win0_3.index last) (by decide)
  arr_of_last m c 3 _ flush0_3
    ((congrArg ((cfg0.win 3).cut (grid0.coords last)) (after_3 m c last)).trans
      (Memref.read_access_unit_zero (Elt F) main_v2_1 hz (fun a => by rw [congrFun hz a]; simp) (held m c last.val last.isLt).sx).symm)
    fun i => by
      show i ∈ ((View.whole main_v2_1).slice (win0_3.rect last)).set
      rw [View.set_slice_whole, Rect.mem_set_unit]
      intro a
      fin_cases a <;> exact ⟨Nat.zero_le _, (i _).isLt⟩
theorem arr_lz (c : Dev nD) : (dats m 0 c).arrAt 4 cfg0.N = (held m c last.val last.isLt).lz :=
  have hz := at_origin (s := main_v2_2.ty.shape) (win0_4.index last) (by decide)
  arr_of_last m c 4 _ flush0_4
    ((congrArg ((cfg0.win 4).cut (grid0.coords last)) (after_4 m c last)).trans
      (Memref.read_access_unit_zero (Elt F) main_v2_2 hz (fun a => by rw [congrFun hz a]; simp) (held m c last.val last.isLt).lz).symm)
    fun i => by
      show i ∈ ((View.whole main_v2_2).slice (win0_4.rect last)).set
      rw [View.set_slice_whole, Rect.mem_set_unit]
      intro a
      fin_cases a <;> exact ⟨Nat.zero_le _, (i _).isLt⟩
theorem arr_fw (c : Dev nD) : (dats m 0 c).arrAt 5 cfg0.N = (held m c last.val last.isLt).fw :=
  have hz := at_origin (s := main_v2_3.ty.shape) (win0_5.index last) (by decide)
  arr_of_last m c 5 _ flush0_5
    ((congrArg ((cfg0.win 5).cut (grid0.coords last)) (after_5 m c last)).trans
      (Memref.read_access_unit_zero (Elt F) main_v2_3 hz (fun a => by rw [congrFun hz a]; simp) (held m c last.val last.isLt).fw).symm)
    fun i => by
      show i ∈ ((View.whole main_v2_3).slice (win0_5.rect last)).set
      rw [View.set_slice_whole, Rect.mem_set_unit]
      intro a
      fin_cases a <;> exact ⟨Nat.zero_le _, (i _).isLt⟩
theorem arr_w (c : Dev nD) : (dats m 0 c).arrAt 6 cfg0.N = (held m c last.val last.isLt).w :=
  have hz := at_origin (s := main_v2_4.ty.shape) (win0_6.index last) (by decide)
  arr_of_last m c 6 _ flush0_6
    ((congrArg ((cfg0.win 6).cut (grid0.coords last)) (after_6 m c last)).trans
      (Memref.read_access_unit_zero (Elt F) main_v2_4 hz (fun a => by rw [congrFun hz a]; simp) (held m c last.val last.isLt).w).symm)
    fun i => by
      show i ∈ ((View.whole main_v2_4).slice (win0_6.rect last)).set
      rw [View.set_slice_whole, Rect.mem_set_unit]
      intro a
      fin_cases a <;> exact ⟨Nat.zero_le _, (i _).isLt⟩

end Blocks

section Sums

variable (m : (ℓ : Loc nD τ sig) → Buf (Elt Ideal) ℓ)

/-- The rows' scores and classes that device `c`'s arguments hold. -/
abbrev xs (c : Dev nD) : ℕ → Fin 7 → ℝ := scoreOf (m ((c : Thread nD τ).loc main_arg0))
abbrev ts (c : Dev nD) : ℕ → Fin 7 := classOf (m ((c : Thread nD τ).loc main_arg1))

variable (c : Dev nD) (hg : Good (m ((c : Thread nD τ).loc main_arg0)) (m ((c : Thread nD τ).loc main_arg1)))
include hg

theorem isScores (t : Fin cfg0.N) (k : ℕ) (hk : k < 1024) : IsScores (xs m c) (cut (scores m c t) k hk) (1024 * t.val + k) := fun i l => by
  have hN : cfg0.N = 32 := N_0
  have hr : 128 * (1024 * t.val + k) + l.val < 4194304 := by have := t.isLt; have := l.isLt; omega
  rw [scores_at m c t k hk i l ⟨_, hr⟩ rfl]
  exact hg.score _ hr i
theorem isTargets (t : Fin cfg0.N) (k : ℕ) (hk : k < 1024) : IsTargets (ts m c) (row (targets m c t) k hk) (1024 * t.val + k) := fun l => by
  have hN : cfg0.N = 32 := N_0
  have hr : 128 * (1024 * t.val + k) + l.val < 4194304 := by have := t.isLt; have := l.isLt; omega
  rw [targets_at m c t k hk l ⟨_, hr⟩ rfl]
  exact hg.target _ hr

/-- After point `n` the outputs hold the sums of the first `1024 (n + 1)` chunks. -/
theorem tot_held (n : ℕ) (h : n < cfg0.N) : Tot (xs m c) (ts m c) (held m c n h) 0 (1024 * n + 1024) := by
  induction n with
  | zero => exact tot_plus le_rfl (Nat.zero_le _) (tot_zero _ _ 0) (tot_sums _ _ 0 (isScores m c hg ⟨0, h⟩) (isTargets m c hg ⟨0, h⟩))
  | succ n ih =>
    exact tot_plus (Nat.zero_le _) (Nat.le_add_right _ _) (ih (Nat.lt_of_succ_lt h))
      (tot_sums _ _ (1024 * (n + 1)) (isScores m c hg ⟨n + 1, h⟩) (isTargets m c hg ⟨n + 1, h⟩))

theorem tot_last : Tot (xs m c) (ts m c) (held m c last.val last.isLt) 0 32768 := tot_held m c hg 31 last.isLt

end Sums

end Cert.KernelIdeal.Hand

end
-- ==== Proof.KernelValue.lean ====
/-
  The kernel's result over the extended reals, under the precondition: the loss of its five sums.
-/
module

public import proofs.«01_k».proof.Proof.KernelArrays

@[expose] public section

noncomputable section

namespace Cert.KernelIdeal.Hand

open Idealize.ShloMosaic Idealize.ShloMosaic.TcCoe Idealize.ShloMosaic.ValueIdx Idealize.SL.Sem
open Cert.Loss Cert.KernelIdeal Cert.KernelIdeal.Gen
open scoped BigOperators

/-- The host code after the call, of the five sums' arrays. -/
def tail {F : FTy → Type} [FloatOps F] (s : Acc F) : FVec F S_ .f32 :=
  let whole (x : FVec F S7x128 .f32) : FVec F S_ .f32 := Host.reduceAdd x (constant S_ .f32 0x00000000#32) reducesTo_S7x128_S_d0_1 h_S_
  let n : FVec F S_ .f32 := constant S_ .f32 0x4A800000#32
  let ten : FVec F S_ .f32 := constant S_ .f32 0x41200000#32
  addf
    (mulf (mulf (constant S_ .f32 0x3E800000#32) (Host.divf (whole s.fw) n))
      (Host.divf (addf (subf (mulf (Host.divf (constant S_ .f32 0xC1100000#32) ten) (whole s.xt))
          (mulf (Host.divf (constant S_ .f32 0x3F800000#32) (constant S_ .f32 0x428C0000#32)) (whole s.sx)))
        (mulf (Host.log (constant S_ .f32 0x40000000#32)) (Host.reduceAdd s.lz (constant S_ .f32 0x00000000#32) reducesTo_S1x128_S_d0_1 h_S_))) n))
    (mulf (Host.divf (constant S_ .f32 0x40E00000#32) ten) (Host.divf (whole s.w) n))

section Tail

variable {F : FTy → Type} [FloatOps F]
variable (m : (ℓ : Loc nD τ sig) → Buf (Elt F) ℓ) (ρ : Dev nD → PrngReg)

/-- The result buffer after the host code. -/
theorem W_main_v27 (c : Dev nD) :
    (Pipeline.afterTail₀ cfgs (dats m) 0 (V0 m) [hostOps1] c main_v27 : FVec F S_ .f32) = tail (held m c last.val last.isLt) := by
  unfold Pipeline.afterTail₀
  show StableHlo.after hostOps1 _ _ = _
  simp only [hostOps1]
  after_results_simp
  have h := Pipeline.withArrays_arr spec0 winFacts0.arr_inj c (V0 m c) (fun w => (dats m 0 c).arrAt w cfg0.N)
  have h2 := (h 2).trans (arr_xt m c)
  have h3 := (h 3).trans (arr_sx m c)
  have h4 := (h 4).trans (arr_lz m c)
  have h5 := (h 5).trans (arr_fw m c)
  have h6 := (h 6).trans (arr_w m c)
  rw [h2, h3, h4, h5, h6]
  rfl

theorem run_value : θ_run defs (onTc (τ := τ) (main (F := F))) ⟨m, fun _ => 0, ρ⟩ (fun r => ∀ c : Dev nD,
      (r.2.mem ((c.tc : Thread nD τ).loc main_v27) : FVec F S_ .f32) = tail (held m c last.val last.isLt)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v27 (Pipeline.mem_restRefs_of main_v27 (by decide) (by decide))).trans (W_main_v27 m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c)⟩)
    (run_all m ρ)

end Tail

/-- A sum over the lanes' chunks is the sum over the rows. -/
theorem over_rows (f : ℕ → Fin 7 → ℝ) :
    ∑ i : Fin 7, ∑ l : Fin 128, ∑ j ∈ Finset.Ico 0 32768, f (128 * j + l.val) i = ∑ r ∈ Finset.range 4194304, ∑ i, f r i := by
  rw [show 4194304 = 128 * 32768 by norm_num, sum_rows (fun r => ∑ i, f r i) 32768 128, Nat.Ico_zero_eq_range]
  simp only [Finset.sum_range (n := 128)]
  rw [Finset.sum_congr rfl fun i _ => Finset.sum_comm (γ := Fin 128), Finset.sum_comm]
  exact Finset.sum_congr rfl fun j _ => Finset.sum_comm

/-- The host code of those sums is the loss of the sums. -/
theorem tail_at {x : ℕ → Fin 7 → ℝ} {t : ℕ → Fin 7} {s : Acc Ideal} (hs : Tot x t s 0 32768) (j : S_.Idx) :
    (tail s : FVec Ideal S_ .f32) j = ((lossOfSums x t 4194304 : ℝ) : EReal) := by
  unfold tail
  dsimp only
  have one : ∀ (f : Fin 128 → ℝ), ∑ i : Fin 1, ∑ l : Fin 128, f l = ∑ l, f l := fun f => by simp
  rw [addf_apply, mulf_apply, mulf_apply, mulf_apply, hostDivf_apply, hostDivf_apply, hostDivf_apply, hostDivf_apply,
    addf_apply, subf_apply, mulf_apply, mulf_apply, mulf_apply, hostDivf_apply, hostDivf_apply,
    host_total2 s.fw _ hs.fw, host_total2 s.xt _ hs.xt, host_total2 s.sx _ hs.sx, host_total2 s.w _ hs.w,
    host_total2 s.lz (fun _ l => ∑ j ∈ Finset.Ico 0 32768, addLz x (128 * j + l.val)) (fun i l => by
      obtain rfl : i = 0 := Subsingleton.elim _ _
      exact hs.lz l)]
  have hl : (Host.log (constant S_ .f32 0x40000000#32) : FVec Ideal S_ .f32) j = ((Real.log 2 : ℝ) : EReal) := by
    show Ideal.log (Ideal.ofBits .f32 0x40000000#32) = _
    rw [Words.w2, coe_log _ two_pos]
  have hlz := over_rows (fun r i => if i = 0 then addLz x r else 0)
  simp only [Finset.sum_ite_eq', Finset.sum_ite_irrel, Finset.sum_const_zero, Finset.mem_univ, if_true] at hlz
  rw [hl, over_rows (addFw x t), over_rows (addXt x t), over_rows x, over_rows (addW x t), one, hlz]
  simp only [constant_apply, Words.w1, Words.w7, Words.w10, Words.w70, Words.wm9, Words.wq, Words.wB]
  rw [coe_quot _ _ (by norm_num), coe_quot _ _ (by norm_num), coe_quot _ _ (by norm_num), coe_quot _ _ (by norm_num),
    coe_quot _ _ (by norm_num), ← EReal.coe_mul, ← EReal.coe_mul, ← EReal.coe_mul, ← EReal.coe_sub, ← EReal.coe_mul, ← EReal.coe_add,
    coe_quot _ _ (by norm_num), ← EReal.coe_mul, ← EReal.coe_mul, ← EReal.coe_add]
  unfold lossOfSums
  norm_num

end Cert.KernelIdeal.Hand

end
-- ==== Proof.RefRows.lean ====
/-
  The reference's layout operations at an index: a column spread along its rows, a row's largest score, the class of
  each row picked out of it, and the running sum along a row.
-/
module

public import proofs.«01_k».proof.Proof.Data
public import proofs.«01_k».proof.Proof.Equation
public import proofs.«01_k».proof.Proof.Gen.ReferenceIdeal
public import Idealize.ShloMosaic.Lib.Pipeline.Value
public import Idealize.ShloMosaic.Lib.ReduceAll

@[expose] public section

noncomputable section

namespace Cert.ReferenceIdeal.Hand

open Idealize.ShloMosaic Idealize.ShloMosaic.ValueIdx
open Cert.Loss Cert.ReferenceIdeal Cert.ReferenceIdeal.Gen
open scoped BigOperators

section Layout

variable {α : Type}

theorem column_at (v : S4194304.Idx → α) (r : Fin 4194304) (k : Fin 1) :
    broadcastInDim S4194304x1 ![0] bcast_S4194304_S4194304x1_0 v (ix2 r k) = v (ix1 r) :=
  broadcastInDim_apply _ _ v _ _ fun a => by
    match a with | ⟨0, _⟩ => exact (if_neg (show ¬ (4194304 : ℕ) = 1 by decide)).symm

theorem wide_at (v : S4194304x1.Idx → α) (r : Fin 4194304) (c : Fin 7) :
    broadcastInDim S4194304x7 ![0, 1] bcast_S4194304x1_S4194304x7_0_1 v (ix2 r c) = v (ix2 r 0) :=
  broadcastInDim_apply _ _ v _ _ fun a => by
    match a with
    | ⟨0, _⟩ => exact (if_neg (show ¬ (4194304 : ℕ) = 1 by decide)).symm
    | ⟨1, _⟩ => rfl

theorem tall_at (v : S1x7.Idx → α) (r : Fin 4194304) (c : Fin 7) :
    broadcastInDim S4194304x7 ![0, 1] bcast_S1x7_S4194304x7_0_1 v (ix2 r c) = v (ix2 0 c) :=
  broadcastInDim_apply _ _ v _ _ fun a => by
    match a with
    | ⟨0, _⟩ => rfl
    | ⟨1, _⟩ => exact (if_neg (show ¬ (7 : ℕ) = 1 by decide)).symm

theorem row_at (v : S7.Idx → α) (k : Fin 1) (c : Fin 7) :
    broadcastInDim S1x7 ![1] bcast_S7_S1x7_1 v (ix2 k c) = v (ix1 c) :=
  broadcastInDim_apply _ _ v _ _ fun a => by
    match a with | ⟨0, _⟩ => exact (if_neg (show ¬ (7 : ℕ) = 1 by decide)).symm

theorem deep_at (v : S4194304x1.Idx → α) (r : Fin 4194304) :
    shapeCast S4194304x1x1 v shapeCasts_S4194304x1_S4194304x1x1 (ix3 r 0 0) = v (ix2 r 0) :=
  shapeCast_apply v _ _ _ (by
    rw [Shape.rowMajor_val_two, Shape.rowMajor_val_three]
    show r.val * 1 + 0 = (r.val * 1 + 0) * 1 + 0
    omega)

theorem flat_at (v : S4194304x1.Idx → α) (r : Fin 4194304) :
    shapeCast S4194304 v shapeCasts_S4194304x1_S4194304 (ix1 r) = v (ix2 r 0) :=
  shapeCast_apply v _ _ _ (by
    rw [Shape.rowMajor_val_two, Shape.rowMajor_val_one]
    show r.val * 1 + 0 = r.val
    omega)

theorem deep_idx (i : S4194304x1x1.Idx) : ∃ r, i = ix3 r 0 0 := by
  refine ⟨i 0, funext fun a => ?_⟩
  match a with
  | ⟨0, _⟩ => rfl
  | ⟨1, _⟩ => exact Fin.ext (Nat.lt_one_iff.1 (i 1).isLt)
  | ⟨2, _⟩ => exact Fin.ext (Nat.lt_one_iff.1 (i 2).isLt)

end Layout

/-- The largest of a row of real scores, from minus infinity, is a real. -/
theorem largest_real (X : FVec Ideal SB7 .f32) (f : Fin 4194304 → Fin 7 → ℝ) (hX : ∀ r c, X (ix2 r c) = ((f r c : ℝ) : EReal))
    (r : Fin 4194304) :
    ∃ M : ℝ, Host.reduce FloatOps.maximumf X (constant S_ .f32 0xFF800000#32) reducesTo_S4194304x7_S4194304_d1 h_S_ (ix1 r) = ((M : ℝ) : EReal) := by
  have e : Host.reduce FloatOps.maximumf X (constant S_ .f32 0xFF800000#32) reducesTo_S4194304x7_S4194304_d1 h_S_ (ix1 r)
      = (Finset.univ.filter fun i => reducesTo_S4194304x7_S4194304_d1.drop i = ix1 r).fold (max : EReal → EReal → EReal) ⊥ X := by
    rw [← Words.wbot]
    exact Host.reduce_eq_fold (max : EReal → EReal → EReal) X (constant (F := Ideal) S_ .f32 0xFF800000#32) _ _ _
  have hx : ∀ i, ∃ q : ℝ, X i = (q : EReal) := fun i => ⟨f (i 0) (i 1), by
    conv_lhs => rw [eq_ix2 i]
    exact hX (i 0) (i 1)⟩
  rw [e]
  refine ⟨EReal.toReal _, (EReal.coe_toReal (ne_of_lt ?_) (ne_of_gt ?_)).symm⟩
  · refine (Finset.fold_max_lt _).2 ⟨bot_lt_top, fun i _ => ?_⟩
    obtain ⟨q, hq⟩ := hx i
    rw [hq]; exact EReal.coe_lt_top q
  · refine (Finset.lt_fold_max _).2 (Or.inr ⟨ix2 r 0, ?_, ?_⟩)
    · rw [Finset.mem_filter]
      refine ⟨Finset.mem_univ _, ?_⟩
      funext d; match d with | ⟨0, _⟩ => rfl
    · rw [hX]; exact EReal.bot_lt_coe _

/-- The class of each row picked out of it: the start index within the row, read signed and held to the row. -/
theorem picked_at {α : Type} (x : S4194304x7.Idx → α) (idx : IVec S4194304x1x1 32) (r : Fin 4194304) (c : Fin 7)
    (hc : idx (ix3 r 0 0) = BitVec.ofNat 32 c.val) :
    Host.gather gather_S4194304x7_S4194304x1x1_S4194304x1_n_1_0_0_1_2_11 x idx (ix2 r 0) = x (ix2 r c) := by
  let D : GatherDims S4194304x7 S4194304x1x1 S4194304x1 := gather_S4194304x7_S4194304x1x1_S4194304x1_n_1_0_0_1_2_11
  have none : ∀ a : Fin 2, D.offCoord (ix2 r 0) a = 0 := fun a => GatherDims.offCoord_eq_zero _ _ _ fun h => by
    have := (GatherDims.mem_sKept _ _).mp h
    match a with
    | ⟨0, _⟩ => exact this.2 (List.mem_singleton.mpr rfl)
    | ⟨1, _⟩ => exact this.1 (List.mem_singleton.mpr rfl)
  refine congrArg x (funext fun a => Fin.ext ?_)
  show D.start (ix2 r 0) idx a + D.batchCoord (ix2 r 0) a + D.offCoord (ix2 r 0) a = _
  rw [none a]
  match a with
  | ⟨0, _⟩ =>
    show D.start (ix2 r 0) idx (0 : Fin 2) + D.batchCoord (ix2 r 0) (0 : Fin 2) + 0 = r.val
    rw [GatherDims.start_batching D (ix2 r 0) idx (0 : Fin 2) (List.mem_singleton.mpr rfl)]
    have hb : D.batchCoord (ix2 r 0) (0 : Fin 2) = r.val := by
      unfold GatherDims.batchCoord
      rw [dif_pos (show (0 : Fin 2) ∈ D.operandBatchingDims from List.mem_singleton.mpr rfl)]
      rfl
    omega
  | ⟨1, _⟩ =>
    show D.start (ix2 r 0) idx (1 : Fin 2) + D.batchCoord (ix2 r 0) (1 : Fin 2) + 0 = c.val
    rw [GatherDims.batchCoord_eq_zero D (ix2 r 0) (1 : Fin 2) (fun h => by simp [D, gather_S4194304x7_S4194304x1x1_S4194304x1_n_1_0_0_1_2_11] at h)]
    have hm : (1 : Fin 2) ∈ D.startIndexMap := List.mem_singleton.mpr rfl
    have hsi : D.siIdx (ix2 r 0) ⟨List.idxOf (1 : Fin 2) D.startIndexMap, List.idxOf_lt_length_iff.2 hm⟩ = ix3 r 0 0 := by
      funext b
      match b with
      | ⟨0, _⟩ => rfl
      | ⟨1, _⟩ => rfl
      | ⟨2, _⟩ => rfl
    have hs : D.start (ix2 r 0) idx (1 : Fin 2) = c.val := by
      unfold GatherDims.start
      rw [dif_pos hm, hsi, hc, word_toInt]
      show min c.val 6 = c.val
      omega
    omega

/-- A left fold of additions is the start plus the sum. -/
theorem fold_adds {n : ℕ} (g : Fin n → EReal) (v : EReal) : (List.finRange n).foldl (fun s k => s + g k) v = v + ∑ k, g k := by
  have h : ∀ (l : List (Fin n)) (w : EReal), l.foldl (fun s k => s + g k) w = w + (l.map g).sum := by
    intro l
    induction l with
    | nil => intro w; simp
    | cons a l ih => intro w; rw [List.foldl_cons, ih, List.map_cons, List.sum_cons, add_assoc]
  rw [h, Fin.sum_univ_def]

/-- The seven places of the window that ends at class `j`: the ones inside the row are the classes up to `j`. -/
theorem window_sum (f : Fin 7 → ℝ) (j : Fin 7) :
    ∑ k : Fin 7, (if h : 6 ≤ j.val + k.val then f ⟨j.val + k.val - 6, by omega⟩ else 0) = upTo f j := by
  unfold upTo
  fin_cases j <;> simp [Fin.sum_univ_succ] <;> rfl

/-- The running sum along a row. -/
theorem running_at (x : FVec Ideal SB7 .f32) (f : Fin 4194304 → Fin 7 → ℝ) (hx : ∀ r c, x (ix2 r c) = ((f r c : ℝ) : EReal))
    (v : FVec Ideal S_ .f32) (hv : v ix0 = ((0 : ℝ) : EReal)) (r : Fin 4194304) (j : Fin 7) :
    Host.reduceWindowAdd ![1, 7] ![1, 1] ![0, 6] ![0, 0] x v reduceWindows_S4194304x7_S4194304x7_w1s1p0_0_w7s1p6_0 h_S_ (ix2 r j)
      = ((upTo (f r) j : ℝ) : EReal) := by
  have hv' : v (Shape.Idx.first h_S_) = ((0 : ℝ) : EReal) := by rw [eq_ix0 (Shape.Idx.first h_S_)]; exact hv
  let W : Shape := ⟨2, ![1, 7]⟩
  let G (k : Fin 7) : ℝ := if h : 6 ≤ j.val + k.val then f r ⟨j.val + k.val - 6, by omega⟩ else 0
  show Ideal.hostReduceWindowAdd ![1, 7] ![1, 1] ![0, 6] ![0, 0] reduceWindows_S4194304x7_S4194304x7_w1s1p0_0_w7s1p6_0 x _ _ = _
  unfold Ideal.hostReduceWindowAdd Host.reduceWindow
  dsimp only
  refine (fold_adds _ _).trans ?_
  rw [hv']
  refine (congrArg (((0 : ℝ) : EReal) + ·) (Finset.sum_congr rfl (g := fun n => ((G (W.rowMajor.symm n 1) : ℝ) : EReal)) fun n _ => ?_)).trans ?_
  · obtain ⟨w, hw⟩ : ∃ w, W.rowMajor.symm n = w := ⟨_, rfl⟩
    show _ = ((G (W.rowMajor.symm n 1) : ℝ) : EReal)
    rw [show G (W.rowMajor.symm n 1) = G (w 1) by rw [hw]]
    have h0 : (w 0).val < 1 := (w 0).isLt
    by_cases h : 6 ≤ j.val + (w 1).val
    · have h1 : (w 1).val < 7 := (w 1).isLt
      rw [dif_pos fun a => by
        match a with
        | ⟨0, _⟩ =>
          show 0 ≤ r.val * 1 + (W.rowMajor.symm n 0).val ∧ r.val * 1 + (W.rowMajor.symm n 0).val - 0 < 4194304
          rw [hw]; omega
        | ⟨1, _⟩ =>
          show 6 ≤ j.val * 1 + (W.rowMajor.symm n 1).val ∧ j.val * 1 + (W.rowMajor.symm n 1).val - 6 < 7
          rw [hw]; omega]
      rw [show G (w 1) = _ from dif_pos h, ← hx]
      refine congrArg x (funext fun a => Fin.ext ?_)
      match a with
      | ⟨0, _⟩ =>
        show r.val * 1 + (W.rowMajor.symm n 0).val - 0 = r.val
        rw [hw]; omega
      | ⟨1, _⟩ =>
        show j.val * 1 + (W.rowMajor.symm n 1).val - 6 = j.val + (w 1).val - 6
        rw [hw]; omega
    · rw [dif_neg fun hin => h ?_, show G (w 1) = _ from dif_neg h]
      have : 6 ≤ j.val * 1 + (W.rowMajor.symm n 1).val := (hin 1).1
      rw [hw] at this
      omega
  · rw [Equiv.sum_comp W.rowMajor.symm fun w : W.Idx => ((G (w 1) : ℝ) : EReal), sum_idx2]
    simp only [coe_total]
    rw [← EReal.coe_add, zero_add, Fin.sum_univ_one]
    exact congrArg _ (window_sum (f r) j)

end Cert.ReferenceIdeal.Hand

end
-- ==== Proof.RefValue.lean ====
/-
  The reference's result over the extended reals, under the precondition: the loss written plainly, each row's scores
  shifted by the row's largest.
-/
module

public import proofs.«01_k».proof.Proof.RefRows
public import proofs.«01_k».proof.Proof.Gen.ReferenceIdeal.Run

@[expose] public section

noncomputable section

namespace Cert.ReferenceIdeal.Hand

open Idealize.ShloMosaic Idealize.ShloMosaic.TcCoe Idealize.ShloMosaic.ValueIdx
open Cert.Loss Cert.ReferenceIdeal Cert.ReferenceIdeal.Gen
open scoped BigOperators

abbrev Mat := FVec Ideal S4194304x7 .f32
abbrev Col := FVec Ideal S4194304 .f32
abbrev One := FVec Ideal S_ .f32

variable (X : Mat) (T : IVec S4194304 32)

/-! ## The reference in stages -/

/-- One value for each row, on every class. -/
def spreadRow {α : Type} (v : S4194304.Idx → α) : S4194304x7.Idx → α :=
  broadcastInDim S4194304x7 ![0, 1] bcast_S4194304x1_S4194304x7_0_1 (broadcastInDim S4194304x1 ![0] bcast_S4194304_S4194304x1_0 v)

def rowSums (A : Mat) : Col := Host.reduceAdd A (constant S_ .f32 0x00000000#32) reducesTo_S4194304x7_S4194304_d1 h_S_
def colSum (v : Col) : One := Host.reduceAdd v (constant S_ .f32 0x00000000#32) reducesTo_S4194304_S_d0 h_S_
def allSum (A : Mat) : One := Host.reduceAdd A (constant S_ .f32 0x00000000#32) reducesTo_S4194304x7_S_d0_1 h_S_
def perRow (v : One) : One := Host.divf v (constant S_ .f32 0x4A800000#32)
def tenths (w : BitVec 32) : One := Host.divf (constant S_ .f32 w) (constant S_ .f32 0x41200000#32)

/-- Each row's largest score; the scores less it. -/
def largest : Col := maximumf (broadcastInDim S4194304 ![] bcast_S_S4194304 (constant S_ .f32 0xFF800000#32))
  (Host.reduce FloatOps.maximumf X (constant S_ .f32 0xFF800000#32) reducesTo_S4194304x7_S4194304_d1 h_S_)
def shifted : Mat := subf X (spreadRow (largest X))

/-- The logarithms of the probabilities; the targets as unit rows; the running sums. -/
def logs : Mat := subf (shifted X) (broadcastInDim S4194304x7 ![0, 1] bcast_S4194304x1_S4194304x7_0_1
  (Host.log (broadcastInDim S4194304x1 ![0] bcast_S4194304_S4194304x1_0 (rowSums (Host.exp (shifted X))))))
def units : Mat := uitofp .f32 (cmpi .eq (spreadRow T) (broadcastInDim S4194304x7 ![0, 1] bcast_S1x7_S4194304x7_0_1 (iotaInDim S1x7 32 1)))
def running (A : Mat) : Mat := Host.reduceWindowAdd ![1, 7] ![1, 1] ![0, 6] ![0, 0] A
  (broadcastInDim S_ ![] bcast_S_S_ (constant S_ .f32 0x00000000#32)) reduceWindows_S4194304x7_S4194304x7_w1s1p0_0_w7s1p6_0 h_S_

/-- The place picked in each row, a negative target counted from the row's end; whether it lies in the row; the pick. -/
def place : IVec S4194304x1x1 32 :=
  let t := broadcastInDim S4194304x1 ![0] bcast_S4194304_S4194304x1_0 T
  shapeCast S4194304x1x1 (select (cmpi .slt t (broadcastInDim S4194304x1 ![] bcast_S_S4194304x1 (constantI S_ 32 0#32)))
    (addi t (broadcastInDim S4194304x1 ![] bcast_S_S4194304x1 (constantI S_ 32 7#32))) t) shapeCasts_S4194304x1_S4194304x1x1
def inRow : IVec S4194304x1x1 1 := andi
  (cmpi .sge (place T) (broadcastInDim S4194304x1x1 ![] bcast_S_S4194304x1x1 (constantI S_ 32 0#32)))
  (cmpi .sle (place T) (broadcastInDim S4194304x1x1 ![0, 1, 2] bcast_S1x1x1_S4194304x1x1_0_1_2
    (broadcastInDim S1x1x1 ![2] bcast_S1_S1x1x1_2 (constantI S1 32 6#32))))
def picked (A : Mat) : Col :=
  shapeCast S4194304 (select (Host.reduce IntOp.andi (inRow T) (constantI S_ 1 1#1) reducesTo_S4194304x1x1_S4194304x1_d2 h_S_)
    (Host.gather gather_S4194304x7_S4194304x1x1_S4194304x1_n_1_0_0_1_2_11 A (place T))
    (broadcastInDim S4194304x1 ![] bcast_S_S4194304x1 (constant S_ .f32 0x7FC00000#32))) shapeCasts_S4194304x1_S4194304

/-- The smoothed cross-entropy. -/
def entropy : One :=
  Host.negf (perRow (colSum (rowSums (mulf
    (addf (mulf (units T) (broadcastInDim S4194304x7 ![] bcast_S_S4194304x7 (id (subf (constant S_ .f32 0x3F800000#32) (tenths 0x3F800000#32)))))
      (broadcastInDim S4194304x7 ![] bcast_S_S4194304x7 (id (Host.divf (tenths 0x3F800000#32) (constant S_ .f32 0x40E00000#32)))))
    (logs X)))))

/-- The three terms. -/
def focal : One :=
  perRow (colSum (mulf
    (mulf (broadcastInDim S4194304 ![] bcast_S_S4194304 (constant S_ .f32 0x3E800000#32))
      (Host.powf (subf (broadcastInDim S4194304 ![] bcast_S_S4194304 (constant S_ .f32 0x3F800000#32)) (picked T (Host.exp (logs X))))
        (broadcastInDim S4194304 ![] bcast_S_S4194304 (constant S_ .f32 0x40000000#32))))
    (broadcastInDim S4194304 ![] bcast_S_S4194304 (entropy X T))))
def ordinal : One :=
  perRow (allSum (mulf (Host.absf (subf
    (broadcastInDim S4194304x7 ![0, 1] bcast_S1x7_S4194304x7_0_1 (broadcastInDim S1x7 ![1] bcast_S7_S1x7_1 (sitofp .f32 (iotaInDim S7 32 0))))
    (broadcastInDim S4194304x7 ![0, 1] bcast_S4194304x1_S4194304x7_0_1 (sitofp .f32 (broadcastInDim S4194304x1 ![0] bcast_S4194304_S4194304x1_0 T)))))
    (Host.exp (logs X))))
def transport : One :=
  perRow (colSum (rowSums (Host.absf (subf (running (Host.exp (logs X))) (running (units T))))))

def result : One :=
  addf (addf (focal X T) (mulf (id (tenths 0x40400000#32)) (ordinal X T))) (mulf (id (tenths 0x40800000#32)) (transport X T))

/-- The run's composed term is those stages. -/
theorem run_term (m : (ℓ : Loc nD τ sig) → Buf (Elt Ideal) ℓ) (c : Dev nD) :
    (Value.res_out0 (F := Ideal) m c : One) = result (m ((c.tc : Thread nD τ).loc main_arg0)) (m ((c.tc : Thread nD τ).loc main_arg1)) := by
  show Value.res_main_v55 (F := Ideal) m c = _
  unfold Value.res_main_v55
  rfl

/-! ## The stages' values -/

variable {X T}

theorem spreadRow_at {α : Type} (v : S4194304.Idx → α) (r : Fin 4194304) (c : Fin 7) : spreadRow v (ix2 r c) = v (ix1 r) :=
  (wide_at _ r c).trans (column_at v r 0)

theorem rowSums_at {A : Mat} {f : Fin 4194304 → Fin 7 → ℝ} (h : ∀ r c, A (ix2 r c) = ((f r c : ℝ) : EReal)) (r : Fin 4194304) :
    rowSums A (ix1 r) = ((∑ c, f r c : ℝ) : EReal) := host_rows A f h _ _ r
theorem colSum_at {v : Col} {f : Fin 4194304 → ℝ} (h : ∀ r, v (ix1 r) = ((f r : ℝ) : EReal)) (j : S_.Idx) :
    colSum v j = ((∑ r, f r : ℝ) : EReal) := host_total1 v f h _ _ j
theorem allSum_at {A : Mat} {f : Fin 4194304 → Fin 7 → ℝ} (h : ∀ r c, A (ix2 r c) = ((f r c : ℝ) : EReal)) (j : S_.Idx) :
    allSum A j = ((∑ r, ∑ c, f r c : ℝ) : EReal) := host_total2 A f h _ _ j

theorem exp_at {A : Mat} {i : S4194304x7.Idx} {a : ℝ} (h : A i = ((a : ℝ) : EReal)) : (Host.exp A : Mat) i = ((Real.exp a : ℝ) : EReal) := by
  show Ideal.exp (A i) = _
  rw [h, Ideal.exp_coe]

theorem log_at {v : FVec Ideal S4194304x1 .f32} {i : S4194304x1.Idx} {a : ℝ} (ha : 0 < a) (h : v i = ((a : ℝ) : EReal)) :
    Host.log v i = ((Real.log a : ℝ) : EReal) := by
  show Ideal.log (v i) = _
  rw [h, coe_log a ha]

theorem distance_at {A B : Mat} {i : S4194304x7.Idx} {a b : ℝ} (ha : A i = ((a : ℝ) : EReal)) (hb : B i = ((b : ℝ) : EReal)) :
    Host.absf (subf A B) i = ((|a - b| : ℝ) : EReal) := by
  show max (A i - B i) (-(A i - B i)) = _
  rw [ha, hb, ← EReal.coe_sub, coe_far]

theorem negated_at {v : One} {j : S_.Idx} {a : ℝ} (h : v j = ((a : ℝ) : EReal)) : Host.negf v j = ((-a : ℝ) : EReal) := by
  show -(v j) = _
  rw [h, ← EReal.coe_neg]

/-- A minus infinity under the maximum changes nothing. -/
theorem largest_of {r : Fin 4194304} {a : ℝ}
    (h : Host.reduce FloatOps.maximumf X (constant S_ .f32 0xFF800000#32) reducesTo_S4194304x7_S4194304_d1 h_S_ (ix1 r) = ((a : ℝ) : EReal)) :
    largest X (ix1 r) = ((a : ℝ) : EReal) := by
  unfold largest
  rw [maximumf_apply, h, broadcastInDim_scalar_apply, constant_apply, Words.wbot]
  exact max_eq_right bot_le

theorem focus_at {v : Col} {r : Fin 4194304} {a : ℝ} (h : v (ix1 r) = ((a : ℝ) : EReal)) :
    Host.powf (subf (broadcastInDim S4194304 ![] bcast_S_S4194304 (constant S_ .f32 0x3F800000#32)) v)
      (broadcastInDim S4194304 ![] bcast_S_S4194304 (constant S_ .f32 0x40000000#32)) (ix1 r) = (((1 - a) ^ (2 : ℝ) : ℝ) : EReal) := by
  have e : ∀ w : Col, Host.powf (subf (broadcastInDim S4194304 ![] bcast_S_S4194304 (constant S_ .f32 0x3F800000#32)) v) w (ix1 r)
      = Ideal.pow (broadcastInDim S4194304 ![] bcast_S_S4194304 (constant (F := Ideal) S_ .f32 0x3F800000#32) (ix1 r) - v (ix1 r)) (w (ix1 r)) := fun _ => rfl
  rw [e, broadcastInDim_scalar_apply, broadcastInDim_scalar_apply, constant_apply, constant_apply, h, Words.w1, Words.w2, ← EReal.coe_sub]
  exact Ideal.pow_coe_coe _ _

theorem perRow_at {v : One} {a : ℝ} {j : S_.Idx} (h : v j = ((a : ℝ) : EReal)) : perRow v j = ((a / 4194304 : ℝ) : EReal) := by
  show Ideal.div (v j) (Ideal.ofBits .f32 0x4A800000#32) = _
  rw [h, Words.wB, coe_quot _ _ (by norm_num)]

theorem tenths_at {w : BitVec 32} {a : ℝ} (h : Ideal.ofBits .f32 w = ((a : ℝ) : EReal)) (j : S_.Idx) : tenths w j = ((a / 10 : ℝ) : EReal) := by
  show Ideal.div (Ideal.ofBits .f32 w) (Ideal.ofBits .f32 0x41200000#32) = _
  rw [h, Words.w10, coe_quot _ _ (by norm_num)]

theorem running_real {A : Mat} {f : Fin 4194304 → Fin 7 → ℝ} (h : ∀ r c, A (ix2 r c) = ((f r c : ℝ) : EReal)) (r : Fin 4194304) (j : Fin 7) :
    running A (ix2 r j) = ((upTo (f r) j : ℝ) : EReal) :=
  running_at A f h _ Words.w0 r j

section Stages

variable (hg : Good X T)

include hg

theorem score_at (r : Fin 4194304) (c : Fin 7) : X (ix2 r c) = ((scoreOf X r.val c : ℝ) : EReal) := hg.score r.val r.isLt c
theorem target_at (r : Fin 4194304) : T (ix1 r) = BitVec.ofNat 32 (classOf T r.val).val := hg.target r.val r.isLt

/-- Each row's largest score is a real. -/
theorem largest_at : ∃ M : ℕ → ℝ, ∀ r : Fin 4194304, largest X (ix1 r) = ((M r.val : ℝ) : EReal) := by
  refine ⟨fun n => if h : n < 4194304 then EReal.toReal (largest X (ix1 ⟨n, h⟩)) else 0, fun r => ?_⟩
  obtain ⟨a, ha⟩ := largest_real X (fun r c => scoreOf X r.val c) (score_at hg) r
  have h := largest_of ha
  have e : (if h : r.val < 4194304 then EReal.toReal (largest X (ix1 ⟨r.val, h⟩)) else 0) = a := by
    rw [dif_pos r.isLt]
    exact (congrArg EReal.toReal h).trans (EReal.toReal_coe a)
  exact h.trans (congrArg _ e.symm)

theorem units_at (r : Fin 4194304) (c : Fin 7) : units T (ix2 r c) = ((hot (classOf T) r.val c : ℝ) : EReal) := by
  have hc : (cmpi .eq (spreadRow T) (broadcastInDim S4194304x7 ![0, 1] bcast_S1x7_S4194304x7_0_1 (iotaInDim S1x7 32 1))) (ix2 r c)
      = BitVec.ofBool (decide (BitVec.ofNat 32 (classOf T r.val).val = BitVec.ofNat 32 c.val)) := by
    show BitVec.ofBool (spreadRow T (ix2 r c) == broadcastInDim S4194304x7 ![0, 1] bcast_S1x7_S4194304x7_0_1 (iotaInDim S1x7 32 1) (ix2 r c)) = _
    rw [spreadRow_at, tall_at, target_at hg]
    rfl
  show (((cmpi .eq (spreadRow T) (broadcastInDim S4194304x7 ![0, 1] bcast_S1x7_S4194304x7_0_1 (iotaInDim S1x7 32 1))) (ix2 r c)).toNat : ℝ) = (_ : EReal)
  rw [hc]
  unfold hot
  by_cases h : classOf T r.val = c
  · rw [if_pos h, h]; simp
  · rw [if_neg h, decide_eq_false (fun e => h ((word_eq _ _).1 e))]; simp

theorem place_at (r : Fin 4194304) : place T (ix3 r 0 0) = BitVec.ofNat 32 (classOf T r.val).val := by
  unfold place
  dsimp only
  rw [deep_at, select_apply]
  have ht : broadcastInDim S4194304x1 ![0] bcast_S4194304_S4194304x1_0 T (ix2 r 0) = BitVec.ofNat 32 (classOf T r.val).val :=
    (column_at T r 0).trans (target_at hg r)
  have hn : (cmpi .slt (broadcastInDim S4194304x1 ![0] bcast_S4194304_S4194304x1_0 T)
      (broadcastInDim S4194304x1 ![] bcast_S_S4194304x1 (constantI S_ 32 0#32))) (ix2 r 0) = 0#1 := by
    show BitVec.ofBool ((broadcastInDim S4194304x1 ![0] bcast_S4194304_S4194304x1_0 T (ix2 r 0)).slt 0#32) = 0#1
    rw [ht]
    generalize classOf T r.val = c
    fin_cases c <;> decide
  rw [hn, select_zero, ht]

theorem inRow_one (i : S4194304x1x1.Idx) : inRow T i = 1#1 := by
  obtain ⟨r, rfl⟩ := deep_idx i
  show BitVec.ofBool ((0#32).sle (place T (ix3 r 0 0))) &&& BitVec.ofBool ((place T (ix3 r 0 0)).sle 6#32) = 1#1
  rw [place_at hg]
  generalize classOf T r.val = c
  fin_cases c <;> decide

theorem picked_class (A : Mat) (r : Fin 4194304) : picked T A (ix1 r) = A (ix2 r (classOf T r.val)) := by
  unfold picked
  rw [flat_at, select_apply, Host.reduce_andi_one _ _ _ _ _ rfl (inRow_one hg), select_one]
  exact picked_at A (place T) r _ (place_at hg r)

section Rows

variable {M : ℕ → ℝ} (hM : ∀ r : Fin 4194304, largest X (ix1 r) = ((M r.val : ℝ) : EReal))

include hM

theorem shifted_at (r : Fin 4194304) (c : Fin 7) : shifted X (ix2 r c) = ((scoreOf X r.val c - M r.val : ℝ) : EReal) := by
  unfold shifted
  rw [subf_apply, spreadRow_at, hM, score_at hg, ← EReal.coe_sub]

theorem logs_at (r : Fin 4194304) (c : Fin 7) : logs X (ix2 r c) = ((logShare (scoreOf X) M r.val c : ℝ) : EReal) := by
  have hs := rowSums_at (fun i l => exp_at (shifted_at hg hM i l)) r
  unfold logs
  rw [subf_apply, wide_at, shifted_at hg hM, log_at (Finset.sum_pos (fun _ _ => Real.exp_pos _) Finset.univ_nonempty) ((column_at _ r 0).trans hs),
    ← EReal.coe_sub]
  rfl

theorem probs_at (r : Fin 4194304) (c : Fin 7) :
    (Host.exp (logs X) : Mat) (ix2 r c) = ((Real.exp (logShare (scoreOf X) M r.val c) : ℝ) : EReal) :=
  exp_at (logs_at hg hM r c)

theorem entropy_at (j : S_.Idx) : entropy X T j = ((crossEntropy (scoreOf X) (classOf T) M 4194304 : ℝ) : EReal) := by
  unfold entropy crossEntropy
  rw [Finset.sum_range]
  refine negated_at (perRow_at (colSum_at (fun r => rowSums_at (f := fun (i : Fin 4194304) l =>
    (hot (classOf T) i.val l * (1 - 1 / 10) + 1 / 10 / 7) * logShare (scoreOf X) M i.val l) (fun i l => ?_) r) j))
  rw [mulf_apply, addf_apply, mulf_apply, units_at hg, logs_at hg hM, broadcastInDim_scalar_apply, broadcastInDim_scalar_apply]
  show (_ * (Ideal.ofBits .f32 0x3F800000#32 - tenths 0x3F800000#32 ix0)
      + Ideal.div (tenths 0x3F800000#32 ix0) (Ideal.ofBits .f32 0x40E00000#32)) * _ = (_ : EReal)
  rw [tenths_at Words.w1, Words.w1, Words.w7, coe_quot _ _ (by norm_num), ← EReal.coe_sub, ← EReal.coe_mul, ← EReal.coe_add, ← EReal.coe_mul]

theorem focal_at (j : S_.Idx) : focal X T j = (((∑ r ∈ Finset.range 4194304,
    1 / 4 * (1 - Real.exp (logShare (scoreOf X) M r (classOf T r))) ^ (2 : ℝ) * crossEntropy (scoreOf X) (classOf T) M 4194304) / 4194304 : ℝ) : EReal) := by
  unfold focal
  rw [Finset.sum_range]
  refine perRow_at (colSum_at (f := fun r : Fin 4194304 =>
    1 / 4 * (1 - Real.exp (logShare (scoreOf X) M r.val (classOf T r.val))) ^ (2 : ℝ) * crossEntropy (scoreOf X) (classOf T) M 4194304)
    (fun r => ?_) j)
  rw [mulf_apply, mulf_apply, broadcastInDim_scalar_apply, broadcastInDim_scalar_apply, entropy_at hg hM]
  rw [focus_at ((picked_class hg _ r).trans (probs_at hg hM r _)), constant_apply, Words.wq, ← EReal.coe_mul, ← EReal.coe_mul]

theorem ordinal_at (j : S_.Idx) : ordinal X T j = (((∑ r ∈ Finset.range 4194304,
    ∑ c, far (classOf T) r c * Real.exp (logShare (scoreOf X) M r c)) / 4194304 : ℝ) : EReal) := by
  unfold ordinal
  rw [Finset.sum_range]
  refine perRow_at (allSum_at (f := fun (r : Fin 4194304) c => far (classOf T) r.val c * Real.exp (logShare (scoreOf X) M r.val c))
    (fun r c => ?_) j)
  rw [mulf_apply, probs_at hg hM]
  have ha : broadcastInDim S4194304x7 ![0, 1] bcast_S1x7_S4194304x7_0_1 (broadcastInDim S1x7 ![1] bcast_S7_S1x7_1
      (sitofp (F := Ideal) .f32 (iotaInDim S7 32 0))) (ix2 r c) = ((c.val : ℝ) : EReal) :=
    ((tall_at _ r c).trans (row_at _ 0 c)).trans (coe_class c)
  have hb : broadcastInDim S4194304x7 ![0, 1] bcast_S4194304x1_S4194304x7_0_1 (sitofp (F := Ideal) .f32
      (broadcastInDim S4194304x1 ![0] bcast_S4194304_S4194304x1_0 T)) (ix2 r c) = (((classOf T r.val).val : ℝ) : EReal) := by
    rw [wide_at, sitofp_apply, column_at, target_at hg]
    exact coe_class _
  rw [distance_at ha hb, ← EReal.coe_mul]
  rfl

theorem transport_at (j : S_.Idx) : transport X T j = (((∑ r ∈ Finset.range 4194304,
    ∑ c, |upTo (fun d => Real.exp (logShare (scoreOf X) M r d)) c - upTo (hot (classOf T) r) c|) / 4194304 : ℝ) : EReal) := by
  unfold transport
  rw [Finset.sum_range]
  exact perRow_at (colSum_at (fun r => rowSums_at (fun i c => distance_at (running_real (fun r d => probs_at hg hM r d) i c)
    (running_real (fun r d => units_at hg r d) i c)) r) j)

theorem result_plain (j : S_.Idx) : result X T j = ((plainLoss (scoreOf X) (classOf T) M 4194304 : ℝ) : EReal) := by
  unfold result
  rw [addf_apply, addf_apply, mulf_apply, mulf_apply, focal_at hg hM, ordinal_at hg hM, transport_at hg hM]
  show _ + tenths 0x40400000#32 j * _ + tenths 0x40800000#32 j * _ = (_ : EReal)
  rw [tenths_at Words.w3, tenths_at Words.w4, ← EReal.coe_mul, ← EReal.coe_mul, ← EReal.coe_add, ← EReal.coe_add]
  unfold plainLoss
  norm_num

end Rows

/-- The reference's result is the loss of the kernel's sums. -/
theorem result_at (j : S_.Idx) : result X T j = ((lossOfSums (scoreOf X) (classOf T) 4194304 : ℝ) : EReal) := by
  obtain ⟨M, hM⟩ := largest_at hg
  rw [result_plain hg hM, losses_agree]

end Stages

end Cert.ReferenceIdeal.Hand

end
-- ==== Proof.lean ====
/- The proof of the claims about the ordinal focal loss. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_finite_scores_and_classes
public import proofs.«01_k».proof.Proof.KernelRun
public import proofs.«01_k».proof.Proof.KernelValue
public import proofs.«01_k».proof.Proof.RefValue
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its arguments, and has no semaphore to leave set. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  θ_run_mono
    (Cert.ReferenceIdeal.Value.run (F := Ideal) m g) (fun r h => ⟨fun c => (h c).2, sem_eq_zero_of_no_sems (by decide) r.2⟩)

/-- Under the precondition the kernel and the reference end with one loss: the loss of the kernel's five sums. -/
theorem same_loss : Cert.algebraic_KernelIdeal_ReferenceIdeal_pre_finite_scores_and_classes
    (hKernelIdeal := Cert.KernelIdeal.Gen.facts) (hReferenceIdeal := Cert.ReferenceIdeal.Gen.facts)
    (hPre_finite_scores_and_classes := Cert.Pre_finite_scores_and_classes.Gen.facts) := by
  intro m g m' g' hp ha
  refine ⟨fun c => Cert.KernelIdeal.Hand.tail (Cert.KernelIdeal.Hand.held m c Cert.KernelIdeal.Hand.last.val Cert.KernelIdeal.Hand.last.isLt),
    Cert.KernelIdeal.Hand.run_value m g, θ_run_mono (Cert.ReferenceIdeal.Value.run (F := Ideal) m' g') (fun r h c => ⟨?_, (h c).2⟩)⟩
  have hg := Cert.Loss.good_of_pre _ _ (hp c)
  refine (h c).1.trans ((Cert.ReferenceIdeal.Hand.run_term m' c).trans (funext fun j => ?_))
  rw [(ha c).1, (ha c).2]
  exact (Cert.ReferenceIdeal.Hand.result_at hg j).trans
    (Cert.KernelIdeal.Hand.tail_at (Cert.KernelIdeal.Hand.tot_last m c hg) j).symm

theorem claim : Cert.Claim := ⟨Cert.Kernel.Gen.facts, Cert.KernelIdeal.Gen.facts, Cert.ReferenceIdeal.Gen.facts,
  Cert.Pre_finite_scores_and_classes.Gen.facts,
  fun m ρ _ => Cert.Kernel.Hand.frame_all m ρ,
  fun m ρ _ => Cert.KernelIdeal.Hand.frame_all m ρ,
  fun m ρ _ => Cert.KernelIdeal.Hand.frame_all m ρ,
  fun m ρ _ => reference_frame m ρ,
  fun m ρ _ => reference_frame m ρ,
  trivial,
  fun m g m' g' hp ha => same_loss m g m' g' hp ha⟩

end Cert.Proof

end
